-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5)
      ∧ r.2.mem ((c.tc : Thread Cert.Projection.nD Cert.Projection.τ).loc Cert.Projection.main_arg6) = m ((c.tc : Thread Cert.Projection.nD Cert.Projection.τ).loc Cert.Projection.main_arg6)
      ∧ r.2.mem ((c.tc : Thread Cert.Projection.nD Cert.Projection.τ).loc Cert.Projection.main_arg7) = m ((c.tc : Thread Cert.Projection.nD Cert.Projection.τ).loc Cert.Projection.main_arg7)
      ∧ r.2.mem ((c.tc : Thread Cert.Projection.nD Cert.Projection.τ).loc Cert.Projection.main_arg8) = m ((c.tc : Thread Cert.Projection.nD Cert.Projection.τ).loc Cert.Projection.main_arg8)
      ∧ r.2.mem ((c.tc : Thread Cert.Projection.nD Cert.Projection.τ).loc Cert.Projection.main_arg9) = m ((c.tc : Thread Cert.Projection.nD Cert.Projection.τ).loc Cert.Projection.main_arg9)
      ∧ r.2.mem ((c.tc : Thread Cert.Projection.nD Cert.Projection.τ).loc Cert.Projection.main_arg10) = m ((c.tc : Thread Cert.Projection.nD Cert.Projection.τ).loc Cert.Projection.main_arg10)
      ∧ r.2.mem ((c.tc : Thread Cert.Projection.nD Cert.Projection.τ).loc Cert.Projection.main_arg11) = m ((c.tc : Thread Cert.Projection.nD Cert.Projection.τ).loc Cert.Projection.main_arg11))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
      ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7)
      ∧ r.2.mem ((c.tc : Thread Cert.ProjectionIdeal.nD Cert.ProjectionIdeal.τ).loc Cert.ProjectionIdeal.main_arg8) = m ((c.tc : Thread Cert.ProjectionIdeal.nD Cert.ProjectionIdeal.τ).loc Cert.ProjectionIdeal.main_arg8)
      ∧ r.2.mem ((c.tc : Thread Cert.ProjectionIdeal.nD Cert.ProjectionIdeal.τ).loc Cert.ProjectionIdeal.main_arg9) = m ((c.tc : Thread Cert.ProjectionIdeal.nD Cert.ProjectionIdeal.τ).loc Cert.ProjectionIdeal.main_arg9)
      ∧ r.2.mem ((c.tc : Thread Cert.ProjectionIdeal.nD Cert.ProjectionIdeal.τ).loc Cert.ProjectionIdeal.main_arg10) = m ((c.tc : Thread Cert.ProjectionIdeal.nD Cert.ProjectionIdeal.τ).loc Cert.ProjectionIdeal.main_arg10)
      ∧ r.2.mem ((c.tc : Thread Cert.ProjectionIdeal.nD Cert.ProjectionIdeal.τ).loc Cert.ProjectionIdeal.main_arg11) = m ((c.tc : Thread Cert.ProjectionIdeal.nD Cert.ProjectionIdeal.τ).loc Cert.ProjectionIdeal.main_arg11))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5)
      ∧ r.2.mem ((c.tc : Thread Cert.ProjectionReferenceIdeal.nD Cert.ProjectionReferenceIdeal.τ).loc Cert.ProjectionReferenceIdeal.main_arg6) = m ((c.tc : Thread Cert.ProjectionReferenceIdeal.nD Cert.ProjectionReferenceIdeal.τ).loc Cert.ProjectionReferenceIdeal.main_arg6)
      ∧ r.2.mem ((c.tc : Thread Cert.ProjectionReferenceIdeal.nD Cert.ProjectionReferenceIdeal.τ).loc Cert.ProjectionReferenceIdeal.main_arg7) = m ((c.tc : Thread Cert.ProjectionReferenceIdeal.nD Cert.ProjectionReferenceIdeal.τ).loc Cert.ProjectionReferenceIdeal.main_arg7)
      ∧ r.2.mem ((c.tc : Thread Cert.ProjectionReferenceIdeal.nD Cert.ProjectionReferenceIdeal.τ).loc Cert.ProjectionReferenceIdeal.main_arg8) = m ((c.tc : Thread Cert.ProjectionReferenceIdeal.nD Cert.ProjectionReferenceIdeal.τ).loc Cert.ProjectionReferenceIdeal.main_arg8)
      ∧ r.2.mem ((c.tc : Thread Cert.ProjectionReferenceIdeal.nD Cert.ProjectionReferenceIdeal.τ).loc Cert.ProjectionReferenceIdeal.main_arg9) = m ((c.tc : Thread Cert.ProjectionReferenceIdeal.nD Cert.ProjectionReferenceIdeal.τ).loc Cert.ProjectionReferenceIdeal.main_arg9)
      ∧ r.2.mem ((c.tc : Thread Cert.ProjectionReferenceIdeal.nD Cert.ProjectionReferenceIdeal.τ).loc Cert.ProjectionReferenceIdeal.main_arg10) = m ((c.tc : Thread Cert.ProjectionReferenceIdeal.nD Cert.ProjectionReferenceIdeal.τ).loc Cert.ProjectionReferenceIdeal.main_arg10)
      ∧ r.2.mem ((c.tc : Thread Cert.ProjectionReferenceIdeal.nD Cert.ProjectionReferenceIdeal.τ).loc Cert.ProjectionReferenceIdeal.main_arg11) = m ((c.tc : Thread Cert.ProjectionReferenceIdeal.nD Cert.ProjectionReferenceIdeal.τ).loc Cert.ProjectionReferenceIdeal.main_arg11))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)
      ∧ m' ((c.tc : Thread Cert.ProjectionReferenceIdeal.nD Cert.ProjectionReferenceIdeal.τ).loc Cert.ProjectionReferenceIdeal.main_arg6) = m ((c.tc : Thread Cert.ProjectionIdeal.nD Cert.ProjectionIdeal.τ).loc Cert.ProjectionIdeal.main_arg6)
      ∧ m' ((c.tc : Thread Cert.ProjectionReferenceIdeal.nD Cert.ProjectionReferenceIdeal.τ).loc Cert.ProjectionReferenceIdeal.main_arg7) = m ((c.tc : Thread Cert.ProjectionIdeal.nD Cert.ProjectionIdeal.τ).loc Cert.ProjectionIdeal.main_arg7)
      ∧ m' ((c.tc : Thread Cert.ProjectionReferenceIdeal.nD Cert.ProjectionReferenceIdeal.τ).loc Cert.ProjectionReferenceIdeal.main_arg8) = m ((c.tc : Thread Cert.ProjectionIdeal.nD Cert.ProjectionIdeal.τ).loc Cert.ProjectionIdeal.main_arg8)
      ∧ m' ((c.tc : Thread Cert.ProjectionReferenceIdeal.nD Cert.ProjectionReferenceIdeal.τ).loc Cert.ProjectionReferenceIdeal.main_arg9) = m ((c.tc : Thread Cert.ProjectionIdeal.nD Cert.ProjectionIdeal.τ).loc Cert.ProjectionIdeal.main_arg9)
      ∧ m' ((c.tc : Thread Cert.ProjectionReferenceIdeal.nD Cert.ProjectionReferenceIdeal.τ).loc Cert.ProjectionReferenceIdeal.main_arg10) = m ((c.tc : Thread Cert.ProjectionIdeal.nD Cert.ProjectionIdeal.τ).loc Cert.ProjectionIdeal.main_arg10)
      ∧ m' ((c.tc : Thread Cert.ProjectionReferenceIdeal.nD Cert.ProjectionReferenceIdeal.τ).loc Cert.ProjectionReferenceIdeal.main_arg11) = m ((c.tc : Thread Cert.ProjectionIdeal.nD Cert.ProjectionIdeal.τ).loc Cert.ProjectionIdeal.main_arg11)) →
    ∃ (v0 : (c : Dev Cert.ProjectionIdeal.nD) → Buf (Elt Ideal) ((c.tc : Thread Cert.ProjectionIdeal.nD Cert.ProjectionIdeal.τ).loc Cert.ProjectionIdeal.main_v24_0)) (v1 : (c : Dev Cert.ProjectionIdeal.nD) → Buf (Elt Ideal) ((c.tc : Thread Cert.ProjectionIdeal.nD Cert.ProjectionIdeal.τ).loc Cert.ProjectionIdeal.main_v24_1)) (v2 : (c : Dev Cert.ProjectionIdeal.nD) → Buf (Elt Ideal) ((c.tc : Thread Cert.ProjectionIdeal.nD Cert.ProjectionIdeal.τ).loc Cert.ProjectionIdeal.main_v24_2)) (v3 : (c : Dev Cert.ProjectionIdeal.nD) → Buf (Elt Ideal) ((c.tc : Thread Cert.ProjectionIdeal.nD Cert.ProjectionIdeal.τ).loc Cert.ProjectionIdeal.main_v24_3)) (v4 : (c : Dev Cert.ProjectionIdeal.nD) → Buf (Elt Ideal) ((c.tc : Thread Cert.ProjectionIdeal.nD Cert.ProjectionIdeal.τ).loc Cert.ProjectionIdeal.main_v24_4)) (v5 : (c : Dev Cert.ProjectionIdeal.nD) → Buf (Elt Ideal) ((c.tc : Thread Cert.ProjectionIdeal.nD Cert.ProjectionIdeal.τ).loc Cert.ProjectionIdeal.main_v24_5)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v24_0) = v0 c
          ∧ r.2.mem ((c.tc : Thread Cert.ProjectionIdeal.nD Cert.ProjectionIdeal.τ).loc Cert.ProjectionIdeal.main_v24_1) = v1 c
          ∧ r.2.mem ((c.tc : Thread Cert.ProjectionIdeal.nD Cert.ProjectionIdeal.τ).loc Cert.ProjectionIdeal.main_v24_2) = v2 c
          ∧ r.2.mem ((c.tc : Thread Cert.ProjectionIdeal.nD Cert.ProjectionIdeal.τ).loc Cert.ProjectionIdeal.main_v24_3) = v3 c
          ∧ r.2.mem ((c.tc : Thread Cert.ProjectionIdeal.nD Cert.ProjectionIdeal.τ).loc Cert.ProjectionIdeal.main_v24_4) = v4 c
          ∧ r.2.mem ((c.tc : Thread Cert.ProjectionIdeal.nD Cert.ProjectionIdeal.τ).loc Cert.ProjectionIdeal.main_v24_5) = v5 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
          ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7)
          ∧ r.2.mem ((c.tc : Thread Cert.ProjectionIdeal.nD Cert.ProjectionIdeal.τ).loc Cert.ProjectionIdeal.main_arg8) = m ((c.tc : Thread Cert.ProjectionIdeal.nD Cert.ProjectionIdeal.τ).loc Cert.ProjectionIdeal.main_arg8)
          ∧ r.2.mem ((c.tc : Thread Cert.ProjectionIdeal.nD Cert.ProjectionIdeal.τ).loc Cert.ProjectionIdeal.main_arg9) = m ((c.tc : Thread Cert.ProjectionIdeal.nD Cert.ProjectionIdeal.τ).loc Cert.ProjectionIdeal.main_arg9)
          ∧ r.2.mem ((c.tc : Thread Cert.ProjectionIdeal.nD Cert.ProjectionIdeal.τ).loc Cert.ProjectionIdeal.main_arg10) = m ((c.tc : Thread Cert.ProjectionIdeal.nD Cert.ProjectionIdeal.τ).loc Cert.ProjectionIdeal.main_arg10)
          ∧ r.2.mem ((c.tc : Thread Cert.ProjectionIdeal.nD Cert.ProjectionIdeal.τ).loc Cert.ProjectionIdeal.main_arg11) = m ((c.tc : Thread Cert.ProjectionIdeal.nD Cert.ProjectionIdeal.τ).loc Cert.ProjectionIdeal.main_arg11))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v143) = v0 c
          ∧ r.2.mem ((c.tc : Thread Cert.ProjectionReferenceIdeal.nD Cert.ProjectionReferenceIdeal.τ).loc Cert.ProjectionReferenceIdeal.main_v144) = v1 c
          ∧ r.2.mem ((c.tc : Thread Cert.ProjectionReferenceIdeal.nD Cert.ProjectionReferenceIdeal.τ).loc Cert.ProjectionReferenceIdeal.main_v145) = v2 c
          ∧ r.2.mem ((c.tc : Thread Cert.ProjectionReferenceIdeal.nD Cert.ProjectionReferenceIdeal.τ).loc Cert.ProjectionReferenceIdeal.main_v146) = v3 c
          ∧ r.2.mem ((c.tc : Thread Cert.ProjectionReferenceIdeal.nD Cert.ProjectionReferenceIdeal.τ).loc Cert.ProjectionReferenceIdeal.main_v147) = v4 c
          ∧ r.2.mem ((c.tc : Thread Cert.ProjectionReferenceIdeal.nD Cert.ProjectionReferenceIdeal.τ).loc Cert.ProjectionReferenceIdeal.main_v150) = v5 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5)
          ∧ r.2.mem ((c.tc : Thread Cert.ProjectionReferenceIdeal.nD Cert.ProjectionReferenceIdeal.τ).loc Cert.ProjectionReferenceIdeal.main_arg6) = m' ((c.tc : Thread Cert.ProjectionReferenceIdeal.nD Cert.ProjectionReferenceIdeal.τ).loc Cert.ProjectionReferenceIdeal.main_arg6)
          ∧ r.2.mem ((c.tc : Thread Cert.ProjectionReferenceIdeal.nD Cert.ProjectionReferenceIdeal.τ).loc Cert.ProjectionReferenceIdeal.main_arg7) = m' ((c.tc : Thread Cert.ProjectionReferenceIdeal.nD Cert.ProjectionReferenceIdeal.τ).loc Cert.ProjectionReferenceIdeal.main_arg7)
          ∧ r.2.mem ((c.tc : Thread Cert.ProjectionReferenceIdeal.nD Cert.ProjectionReferenceIdeal.τ).loc Cert.ProjectionReferenceIdeal.main_arg8) = m' ((c.tc : Thread Cert.ProjectionReferenceIdeal.nD Cert.ProjectionReferenceIdeal.τ).loc Cert.ProjectionReferenceIdeal.main_arg8)
          ∧ r.2.mem ((c.tc : Thread Cert.ProjectionReferenceIdeal.nD Cert.ProjectionReferenceIdeal.τ).loc Cert.ProjectionReferenceIdeal.main_arg9) = m' ((c.tc : Thread Cert.ProjectionReferenceIdeal.nD Cert.ProjectionReferenceIdeal.τ).loc Cert.ProjectionReferenceIdeal.main_arg9)
          ∧ r.2.mem ((c.tc : Thread Cert.ProjectionReferenceIdeal.nD Cert.ProjectionReferenceIdeal.τ).loc Cert.ProjectionReferenceIdeal.main_arg10) = m' ((c.tc : Thread Cert.ProjectionReferenceIdeal.nD Cert.ProjectionReferenceIdeal.τ).loc Cert.ProjectionReferenceIdeal.main_arg10)
          ∧ r.2.mem ((c.tc : Thread Cert.ProjectionReferenceIdeal.nD Cert.ProjectionReferenceIdeal.τ).loc Cert.ProjectionReferenceIdeal.main_arg11) = m' ((c.tc : Thread Cert.ProjectionReferenceIdeal.nD Cert.ProjectionReferenceIdeal.τ).loc Cert.ProjectionReferenceIdeal.main_arg11))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectionReferenceIdeal : Cert.ProjectionReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Projection_ProjectionIdeal
    ∧ algebraic_ProjectionIdeal_ProjectionReferenceIdeal (hProjectionIdeal := hProjectionIdeal) (hProjectionReferenceIdeal := hProjectionReferenceIdeal)
-- ==== Pre_finite_scores.lean ====
abbrev S8x2048x1024 : Shape := ⟨3, ![8, 2048, 1024]⟩
abbrev S8x256x4x64 : Shape := ⟨4, ![8, 256, 4, 64]⟩
abbrev S8x2048x4x64 : Shape := ⟨4, ![8, 2048, 4, 64]⟩
abbrev S16x1x3072 : Shape := ⟨3, ![16, 1, 3072]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  bcast_S_S8x256x4x64 : S_.BroadcastsInDim S8x256x4x64 (![] : Fin 0 → Fin S8x256x4x64.rank)
  bcast_S_S8x2048x4x64 : S_.BroadcastsInDim S8x2048x4x64 (![] : Fin 0 → Fin S8x2048x4x64.rank)

variable [Facts]

def fn {F : FTy → Type} [FloatOps F] (main_arg0 : FVec F S8x2048x1024 .bf16) (main_arg1 : FVec F S8x256x4x64 .bf16) (main_arg2 : FVec F S8x256x4x64 .bf16) (main_arg3 : FVec F S8x2048x4x64 .bf16) (main_arg4 : FVec F S8x2048x4x64 .bf16) (main_arg5 : FVec F S8x2048x1024 .bf16) (main_arg6 : FVec F S8x2048x1024 .bf16) (main_arg7 : FVec F S8x2048x1024 .f32) (main_arg8 : FVec F S8x2048x1024 .f32) (main_arg9 : FVec F S16x1x3072 .f32) (main_arg10 : FVec F S1024x1024 .f32) (main_arg11 : FVec F S1024x1024 .f32) : IVec S8x2048x1024 1 × IVec S8x256x4x64 1 × IVec S8x2048x4x64 1 :=
  let main_v0 : FVec F S8x2048x1024 .bf16 := Host.absf main_arg0
  let main_cst : FVec F S_ .bf16 := constant S_ .bf16 0x7F80#16
  let main_v1 : FVec F S8x2048x1024 .bf16 := broadcastInDim S8x2048x1024 ![] bcast_S_S8x2048x1024 main_cst
  let main_v2 : IVec S8x2048x1024 1 := cmpf .olt main_v0 main_v1
  let main_v3 : FVec F S8x256x4x64 .bf16 := Host.absf main_arg1
  let main_cst_0 : FVec F S_ .bf16 := constant S_ .bf16 0x7F80#16
  let main_v4 : FVec F S8x256x4x64 .bf16 := broadcastInDim S8x256x4x64 ![] bcast_S_S8x256x4x64 main_cst_0
  let main_v5 : IVec S8x256x4x64 1 := cmpf .olt main_v3 main_v4
  let main_v6 : FVec F S8x2048x4x64 .bf16 := Host.absf main_arg3
  let main_cst_1 : FVec F S_ .bf16 := constant S_ .bf16 0x7F80#16
  let main_v7 : FVec F S8x2048x4x64 .bf16 := broadcastInDim S8x2048x4x64 ![] bcast_S_S8x2048x4x64 main_cst_1
  let main_v8 : IVec S8x2048x4x64 1 := cmpf .olt main_v6 main_v7
  (main_v2, main_v5, main_v8)
-- ==== Kernel.lean ====
abbrev S8x2048x1024 : Shape := ⟨3, ![8, 2048, 1024]⟩
abbrev S8x256x4x64 : Shape := ⟨4, ![8, 256, 4, 64]⟩
abbrev S8x2048x4x64 : Shape := ⟨4, ![8, 2048, 4, 64]⟩
abbrev S16x1x3072 : Shape := ⟨3, ![16, 1, 3072]⟩
abbrev S1024x1024 : Shape := ⟨2, ![1024, 1024]⟩
abbrev S8x256x4x128 : Shape := ⟨4, ![8, 256, 4, 128]⟩
abbrev S8x4x128x256 : Shape := ⟨4, ![8, 4, 128, 256]⟩
abbrev S8x2048x4x128 : Shape := ⟨4, ![8, 2048, 4, 128]⟩
abbrev S8x4x128x2048 : Shape := ⟨4, ![8, 4, 128, 2048]⟩
abbrev S8x4x256x128 : Shape := ⟨4, ![8, 4, 256, 128]⟩
abbrev S8x4x2048x128 : Shape := ⟨4, ![8, 4, 2048, 128]⟩
abbrev S8x4x128x2304 : Shape := ⟨4, ![8, 4, 128, 2304]⟩
abbrev S8x4x2304x128 : Shape := ⟨4, ![8, 4, 2304, 128]⟩
abbrev S1x256x1024 : Shape := ⟨3, ![1, 256, 1024]⟩
abbrev S1x4x128x2304 : Shape := ⟨4, ![1, 4, 128, 2304]⟩
abbrev S1x4x2304x128 : Shape := ⟨4, ![1, 4, 2304, 128]⟩
abbrev S1x1x1024 : Shape := ⟨3, ![1, 1, 1024]⟩
abbrev S256x1024 : Shape := ⟨2, ![256, 1024]⟩
abbrev S256x128 : Shape := ⟨2, ![256, 128]⟩
abbrev S1x256x128 : Shape := ⟨3, ![1, 256, 128]⟩
abbrev S1x1x128x2304 : Shape := ⟨4, ![1, 1, 128, 2304]⟩
abbrev S128x2304 : Shape := ⟨2, ![128, 2304]⟩
abbrev S1x1x2304x128 : Shape := ⟨4, ![1, 1, 2304, 128]⟩
abbrev S2304x128 : Shape := ⟨2, ![2304, 128]⟩
abbrev S256x2304 : Shape := ⟨2, ![256, 2304]⟩
abbrev S256 : Shape := ⟨1, ![256]⟩
abbrev S256x1 : Shape := ⟨2, ![256, 1]⟩
abbrev S1x1024 : Shape := ⟨2, ![1, 1024]⟩

abbrev nBuf : Space → Nat
  | .hbm => 25
  | .vmem => 21
  | .smem => 0
  | _ => 0

abbrev bufTy : (tb : Table) → Fin (tcTables nBuf tb) → BufTy
  | .hbm, ⟨0, _⟩ => ⟨S8x2048x1024, .bf16⟩
  | .hbm, ⟨1, _⟩ => ⟨S8x256x4x64, .bf16⟩
  | .hbm, ⟨2, _⟩ => ⟨S8x256x4x64, .bf16⟩
  | .hbm, ⟨3, _⟩ => ⟨S8x2048x4x64, .bf16⟩
  | .hbm, ⟨4, _⟩ => ⟨S8x2048x4x64, .bf16⟩
  | .hbm, ⟨5, _⟩ => ⟨S8x2048x1024, .bf16⟩
  | .hbm, ⟨6, _⟩ => ⟨S8x2048x1024, .bf16⟩
  | .hbm, ⟨7, _⟩ => ⟨S8x2048x1024, .f32⟩
  | .hbm, ⟨8, _⟩ => ⟨S8x2048x1024, .f32⟩
  | .hbm, ⟨9, _⟩ => ⟨S16x1x3072, .f32⟩
  | .hbm, ⟨10, _⟩ => ⟨S1024x1024, .f32⟩
  | .hbm, ⟨11, _⟩ => ⟨S1024x1024, .f32⟩
  | .hbm, ⟨12, _⟩ => ⟨S8x256x4x128, .bf16⟩
  | .hbm, ⟨13, _⟩ => ⟨S8x4x128x256, .bf16⟩
  | .hbm, ⟨14, _⟩ => ⟨S8x2048x4x128, .bf16⟩
  | .hbm, ⟨15, _⟩ => ⟨S8x4x128x2048, .bf16⟩
  | .hbm, ⟨16, _⟩ => ⟨S8x256x4x128, .bf16⟩
  | .hbm, ⟨17, _⟩ => ⟨S8x4x256x128, .bf16⟩
  | .hbm, ⟨18, _⟩ => ⟨S8x2048x4x128, .bf16⟩
  | .hbm, ⟨19, _⟩ => ⟨S8x4x2048x128, .bf16⟩
  | .hbm, ⟨20, _⟩ => ⟨S1024x1024, .bf16⟩
  | .hbm, ⟨21, _⟩ => ⟨S1024x1024, .bf16⟩
  | .hbm, ⟨22, _⟩ => ⟨S8x4x128x2304, .bf16⟩
  | .hbm, ⟨23, _⟩ => ⟨S8x4x2304x128, .bf16⟩
  | .hbm, ⟨24, _⟩ => ⟨S8x2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x4x128x2304, .bf16⟩
  | .local _ .vmem, ⟨3, _⟩ => ⟨S1x4x128x2304, .bf16⟩
  | .local _ .vmem, ⟨4, _⟩ => ⟨S1x4x2304x128, .bf16⟩
  | .local _ .vmem, ⟨5, _⟩ => ⟨S1x4x2304x128, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x256x1024, .f32⟩
  | .local _ .vmem, ⟨19, _⟩ => ⟨S1x256x1024, .f32⟩
  | .local _ .vmem, ⟨20, _⟩ => ⟨S256x1024, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x2048x1024 : Shape := ⟨3, ![8, 2048, 1024]⟩
abbrev S8x256x4x64 : Shape := ⟨4, ![8, 256, 4, 64]⟩
abbrev S8x2048x4x64 : Shape := ⟨4, ![8, 2048, 4, 64]⟩
abbrev S16x1x3072 : Shape := ⟨3, ![16, 1, 3072]⟩
abbrev S1024x1024 : Shape := ⟨2, ![1024, 1024]⟩
abbrev S8x1x3072 : Shape := ⟨3, ![8, 1, 3072]⟩
abbrev S8x1x1024 : Shape := ⟨3, ![8, 1, 1024]⟩
abbrev S8x2304x4x64 : Shape := ⟨4, ![8, 2304, 4, 64]⟩
abbrev S8x2048x16x64 : Shape := ⟨4, ![8, 2048, 16, 64]⟩
abbrev S8x2048x4x4x64 : Shape := ⟨5, ![8, 2048, 4, 4, 64]⟩
abbrev S8x4x2304x2048x4 : Shape := ⟨5, ![8, 4, 2304, 2048, 4]⟩
abbrev S8x4x4x2048x2304 : Shape := ⟨5, ![8, 4, 4, 2048, 2304]⟩
abbrev S_ : Shape := ⟨0, ![]⟩
abbrev S8x4x4x2048 : Shape := ⟨4, ![8, 4, 4, 2048]⟩
abbrev S8x4x4x2048x1 : Shape := ⟨5, ![8, 4, 4, 2048, 1]⟩
abbrev S8x4x64x4x2048 : Shape := ⟨5, ![8, 4, 64, 4, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x256x4x64, .bf16⟩
  | .hbm, ⟨2, _⟩ => ⟨S8x256x4x64, .bf16⟩
  | .hbm, ⟨3, _⟩ => ⟨S8x2048x4x64, .bf16⟩
  | .hbm, ⟨4, _⟩ => ⟨S8x2048x4x64, .bf16⟩
  | .hbm, ⟨5, _⟩ => ⟨S8x2048x1024, .bf16⟩
  | .hbm, ⟨6, _⟩ => ⟨S8x2048x1024, .bf16⟩
  | .hbm, ⟨7, _⟩ => ⟨S8x2048x1024, .f32⟩
  | .hbm, ⟨8, _⟩ => ⟨S8x2048x1024, .f32⟩
  | .hbm, ⟨9, _⟩ => ⟨S16x1x3072, .f32⟩
  | .hbm, ⟨10, _⟩ => ⟨S1024x1024, .f32⟩
  | .hbm, ⟨11, _⟩ => ⟨S1024x1024, .f32⟩
  | .hbm, ⟨12, _⟩ => ⟨S8x2048x1024, .f32⟩
  | .hbm, ⟨13, _⟩ => ⟨S8x256x4x64, .f32⟩
  | .hbm, ⟨14, _⟩ => ⟨S8x256x4x64, .f32⟩
  | .hbm, ⟨15, _⟩ => ⟨S8x2048x4x64, .f32⟩
  | .hbm, ⟨16, _⟩ => ⟨S8x2048x4x64, .f32⟩
  | .hbm, ⟨17, _⟩ => ⟨S8x2048x1024, .f32⟩
  | .hbm, ⟨18, _⟩ => ⟨S8x2048x1024, .f32⟩
  | .hbm, ⟨19, _⟩ => ⟨S8x1x3072, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x2304x4x64, .f32⟩
  | .hbm, ⟨24, _⟩ => ⟨S8x2304x4x64, .f32⟩
  | .hbm, ⟨25, _⟩ => ⟨S8x2048x16x64, .f32⟩
  | .hbm, ⟨26, _⟩ => ⟨S8x2048x4x4x64, .f32⟩
  | .hbm, ⟨27, _⟩ => ⟨S8x4x2304x2048x4, .f32⟩
  | .hbm, ⟨28, _⟩ => ⟨S8x4x4x2048x2304, .f32⟩
  | .hbm, ⟨29, _⟩ => ⟨S_, .f32⟩
  | .hbm, ⟨30, _⟩ => ⟨S8x4x4x2048, .f32⟩
  | .hbm, ⟨31, _⟩ => ⟨S_, .f32⟩
  | .hbm, ⟨32, _⟩ => ⟨S8x4x4x2048, .f32⟩
  | .hbm, ⟨33, _⟩ => ⟨S8x4x4x2048, .f32⟩
  | .hbm, ⟨34, _⟩ => ⟨S8x4x4x2048x1, .f32⟩
  | .hbm, ⟨35, _⟩ => ⟨S8x4x4x2048x2304, .f32⟩
  | .hbm, ⟨36, _⟩ => ⟨S8x4x4x2048x2304, .f32⟩
  | .hbm, ⟨37, _⟩ => ⟨S8x4x4x2048x2304, .f32⟩
  | .hbm, ⟨38, _⟩ => ⟨S_, .f32⟩
  | .hbm, ⟨39, _⟩ => ⟨S8x4x4x2048, .f32⟩
  | .hbm, ⟨40, _⟩ => ⟨S8x4x4x2048x1, .f32⟩
  | .hbm, ⟨41, _⟩ => ⟨S8x4x4x2048x2304, .f32⟩
  | .hbm, ⟨42, _⟩ => ⟨S8x4x4x2048x2304, .f32⟩
  | .hbm, ⟨43, _⟩ => ⟨S8x4x64x4x2048, .f32⟩
  | .hbm, ⟨44, _⟩ => ⟨S8x2048x4x4x64, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Projection.lean ====
abbrev S8x2048x1024 : Shape := ⟨3, ![8, 2048, 1024]⟩
abbrev S16x1x3072 : Shape := ⟨3, ![16, 1, 3072]⟩
abbrev S1024 : Shape := ⟨1, ![1024]⟩
abbrev S1024x8704 : Shape := ⟨2, ![1024, 8704]⟩
abbrev S64 : Shape := ⟨1, ![64]⟩
abbrev S2048x64 : Shape := ⟨2, ![2048, 64]⟩
abbrev S3x1024 : Shape := ⟨2, ![3, 1024]⟩
abbrev S1024x1024 : Shape := ⟨2, ![1024, 1024]⟩
abbrev S2x1024 : Shape := ⟨2, ![2, 1024]⟩
abbrev S256x256 : Shape := ⟨2, ![256, 256]⟩
abbrev S1x1024 : Shape := ⟨2, ![1, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S_ : Shape := ⟨0, ![]⟩
abbrev S2048x16 : Shape := ⟨2, ![2048, 16]⟩
abbrev S2048x128 : Shape := ⟨2, ![2048, 128]⟩
abbrev S8x4x128x2048 : Shape := ⟨4, ![8, 4, 128, 2048]⟩
abbrev S8x4x2048x128 : Shape := ⟨4, ![8, 4, 2048, 128]⟩
abbrev S1x256x1024 : Shape := ⟨3, ![1, 256, 1024]⟩
abbrev S1x16x1024 : Shape := ⟨3, ![1, 16, 1024]⟩
abbrev S1x1x1024 : Shape := ⟨3, ![1, 1, 1024]⟩
abbrev S1x4x128x256 : Shape := ⟨4, ![1, 4, 128, 256]⟩
abbrev S1x4x256x128 : Shape := ⟨4, ![1, 4, 256, 128]⟩
abbrev S288x1024 : Shape := ⟨2, ![288, 1024]⟩
abbrev S288x256 : Shape := ⟨2, ![288, 256]⟩
abbrev S256x1024 : Shape := ⟨2, ![256, 1024]⟩
abbrev S16x1024 : Shape := ⟨2, ![16, 1024]⟩
abbrev S16 : Shape := ⟨1, ![16]⟩
abbrev S16x1 : Shape := ⟨2, ![16, 1]⟩
abbrev S256x1 : Shape := ⟨2, ![256, 1]⟩
abbrev S1024x256 : Shape := ⟨2, ![1024, 256]⟩
abbrev S256x128 : Shape := ⟨2, ![256, 128]⟩
abbrev S128x256 : Shape := ⟨2, ![128, 256]⟩
abbrev S1x1x128x256 : Shape := ⟨4, ![1, 1, 128, 256]⟩
abbrev S1x1x256x128 : Shape := ⟨4, ![1, 1, 256, 128]⟩
abbrev S1x256x256 : Shape := ⟨3, ![1, 256, 256]⟩

abbrev nBuf : Space → Nat
  | .hbm => 44
  | .vmem => 37
  | .smem => 0
  | _ => 0

abbrev bufTy : (tb : Table) → Fin (tcTables nBuf tb) → BufTy
  | .hbm, ⟨0, _⟩ => ⟨S8x2048x1024, .f32⟩
  | .hbm, ⟨1, _⟩ => ⟨S16x1x3072, .f32⟩
  | .hbm, ⟨2, _⟩ => ⟨S1024, .f32⟩
  | .hbm, ⟨3, _⟩ => ⟨S1024x8704, .f32⟩
  | .hbm, ⟨4, _⟩ => ⟨S64, .f32⟩
  | .hbm, ⟨5, _⟩ => ⟨S64, .f32⟩
  | .hbm, ⟨6, _⟩ => ⟨S2048x64, .f32⟩
  | .hbm, ⟨7, _⟩ => ⟨S2048x64, .f32⟩
  | .hbm, ⟨8, _⟩ => ⟨S3x1024, .f32⟩
  | .hbm, ⟨9, _⟩ => ⟨S1024, .f32⟩
  | .hbm, ⟨10, _⟩ => ⟨S1024x1024, .f32⟩
  | .hbm, ⟨11, _⟩ => ⟨S2x1024, .f32⟩
  | .hbm, ⟨12, _⟩ => ⟨S256x256, .bf16⟩
  | .hbm, ⟨13, _⟩ => ⟨S1x1024, .f32⟩
  | .hbm, ⟨14, _⟩ => ⟨S1x64, .f32⟩
  | .hbm, ⟨15, _⟩ => ⟨S4x64, .f32⟩
  | .hbm, ⟨16, _⟩ => ⟨S256, .f32⟩
  | .hbm, ⟨17, _⟩ => ⟨S1x256, .f32⟩
  | .hbm, ⟨18, _⟩ => ⟨S1x64, .f32⟩
  | .hbm, ⟨19, _⟩ => ⟨S4x64, .f32⟩
  | .hbm, ⟨20, _⟩ => ⟨S256, .f32⟩
  | .hbm, ⟨21, _⟩ => ⟨S1x256, .f32⟩
  | .hbm, ⟨22, _⟩ => ⟨S1x1024, .f32⟩
  | .hbm, ⟨23, _⟩ => ⟨S1024x8704, .bf16⟩
  | .hbm, ⟨24, _⟩ => ⟨S_, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S2048x64, .f32⟩
  | .hbm, ⟨33, _⟩ => ⟨S2048x64, .f32⟩
  | .hbm, ⟨34, _⟩ => ⟨S2048x128, .f32⟩
  | .hbm, ⟨35, _⟩ => ⟨S2048x128, .f32⟩
  | .hbm, ⟨36, _⟩ => ⟨S2048x128, .f32⟩
  | .hbm, ⟨37, _⟩ => ⟨S1024x1024, .bf16⟩
  | .hbm, ⟨38, _⟩ => ⟨S8x2048x1024, .bf16⟩
  | .hbm, ⟨39, _⟩ => ⟨S8x4x128x2048, .bf16⟩
  | .hbm, ⟨40, _⟩ => ⟨S8x4x2048x128, .bf16⟩
  | .hbm, ⟨41, _⟩ => ⟨S8x2048x1024, .bf16⟩
  | .hbm, ⟨42, _⟩ => ⟨S8x2048x1024, .bf16⟩
  | .hbm, ⟨43, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x8704, .bf16⟩
  | .local _ .vmem, ⟨12, _⟩ => ⟨S1x256, .f32⟩
  | .local _ .vmem, ⟨13, _⟩ => ⟨S1x256, .f32⟩
  | .local _ .vmem, ⟨14, _⟩ => ⟨S256x256, .bf16⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S3x1024, .f32⟩
  | .local _ .vmem, ⟨19, _⟩ => ⟨S1x1024, .f32⟩
  | .local _ .vmem, ⟨20, _⟩ => ⟨S1024x1024, .bf16⟩
  | .local _ .vmem, ⟨21, _⟩ => ⟨S2x1024, .f32⟩
  | .local _ .vmem, ⟨22, _⟩ => ⟨S1x256x1024, .bf16⟩
  | .local _ .vmem, ⟨23, _⟩ => ⟨S1x256x1024, .bf16⟩
  | .local _ .vmem, ⟨24, _⟩ => ⟨S1x4x128x256, .bf16⟩
  | .local _ .vmem, ⟨25, _⟩ => ⟨S1x4x128x256, .bf16⟩
  | .local _ .vmem, ⟨26, _⟩ => ⟨S1x4x256x128, .bf16⟩
  | .local _ .vmem, ⟨27, _⟩ => ⟨S1x4x256x128, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x256x1024, .bf16⟩
  | .local _ .vmem, ⟨32, _⟩ => ⟨S1x256x1024, .f32⟩
  | .local _ .vmem, ⟨33, _⟩ => ⟨S1x256x1024, .f32⟩
  | .local _ .vmem, ⟨34, _⟩ => ⟨S288x1024, .bf16⟩
  | .local _ .vmem, ⟨35, _⟩ => ⟨S288x256, .f32⟩
  | .local _ .vmem, ⟨36, _⟩ => ⟨S256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev main_v24_4 : Ref sig .tc := ⟨.hbm, 42, rfl⟩
abbrev main_v24_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v90 : Index := Scalar.indexCast v1
  let c0_41 : Index := 0#32
  ![v90.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x8704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x128x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== ProjectionReferenceIdeal.lean ====
abbrev S8x2048x1024 : Shape := ⟨3, ![8, 2048, 1024]⟩
abbrev S16x1x3072 : Shape := ⟨3, ![16, 1, 3072]⟩
abbrev S1024 : Shape := ⟨1, ![1024]⟩
abbrev S1024x8704 : Shape := ⟨2, ![1024, 8704]⟩
abbrev S64 : Shape := ⟨1, ![64]⟩
abbrev S2048x64 : Shape := ⟨2, ![2048, 64]⟩
abbrev S3x1024 : Shape := ⟨2, ![3, 1024]⟩
abbrev S1024x1024 : Shape := ⟨2, ![1024, 1024]⟩
abbrev S2x1024 : Shape := ⟨2, ![2, 1024]⟩
abbrev S8x1x3072 : Shape := ⟨3, ![8, 1, 3072]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8704 : Shape := ⟨3, ![8, 2048, 8704]⟩
abbrev S8x2048x256 : Shape := ⟨3, ![8, 2048, 256]⟩
abbrev S8x2048x2048 : Shape := ⟨3, ![8, 2048, 2048]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S8x2048x4x64 : Shape := ⟨4, ![8, 2048, 4, 64]⟩
abbrev S8x2048x4 : Shape := ⟨3, ![8, 2048, 4]⟩
abbrev S8x2048x4x1 : Shape := ⟨4, ![8, 2048, 4, 1]⟩
abbrev S2048x1x64 : Shape := ⟨3, ![2048, 1, 64]⟩
abbrev S1x2048x1x64 : Shape := ⟨4, ![1, 2048, 1, 64]⟩
abbrev S8x2048x16x16 : Shape := ⟨4, ![8, 2048, 16, 16]⟩
abbrev S8x2048x4x16 : Shape := ⟨4, ![8, 2048, 4, 16]⟩
abbrev S8x2047x1024 : Shape := ⟨3, ![8, 2047, 1024]⟩
abbrev S1x1024 : Shape := ⟨2, ![1, 1024]⟩
abbrev S8x2048x2x1024 : Shape := ⟨4, ![8, 2048, 2, 1024]⟩
abbrev S1x1x2x1024 : Shape := ⟨4, ![1, 1, 2, 1024]⟩
abbrev S8x2048x4x128 : Shape := ⟨4, ![8, 2048, 4, 128]⟩
abbrev S8x4x128x2048 : Shape := ⟨4, ![8, 4, 128, 2048]⟩
abbrev S8x4x2048x128 : Shape := ⟨4, ![8, 4, 2048, 128]⟩
abbrev S8x2048x1x1024 : Shape := ⟨4, ![8, 2048, 1, 1024]⟩

abbrev nBuf : Space → Nat
  | .hbm => 193
  | .vmem => 0
  | .smem => 0
  | _ => 0

abbrev hbmTy0_0 (i : Nat) : BufTy := match i % 128 with
  | 0 => ⟨S8x2048x1024, .f32⟩
  | 1 => ⟨S16x1x3072, .f32⟩
  | 2 => ⟨S1024, .f32⟩
  | 3 => ⟨S1024x8704, .f32⟩
  | 4 => ⟨S64, .f32⟩
  | 5 => ⟨S64, .f32⟩
  | 6 => ⟨S2048x64, .f32⟩
  | 7 => ⟨S2048x64, .f32⟩
  | 8 => ⟨S3x1024, .f32⟩
  | 9 => ⟨S1024, .f32⟩
  | 10 => ⟨S1024x1024, .f32⟩
  | 11 => ⟨S2x1024, .f32⟩
  | 12 => ⟨S8x1x3072, .f32⟩
  | 13 => ⟨S8x1x1024, .f32⟩
  | 14 => ⟨S8x1x1024, .f32⟩
  | 15 => ⟨S8x1x1024, .f32⟩
  | 16 => ⟨S8x2048x1024, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S_, .f32⟩
  | 24 => ⟨S8x2048x1, .f32⟩
  | 25 => ⟨S8x2048x1, .f32⟩
  | 26 => ⟨S8x2048x1, .f32⟩
  | 27 => ⟨S8x2048x1024, .f32⟩
  | 28 => ⟨S8x2048x1024, .f32⟩
  | 29 => ⟨S1x1x1024, .f32⟩
  | 30 => ⟨S8x2048x1024, .f32⟩
  | 31 => ⟨S8x2048x1024, .f32⟩
  | 32 => ⟨S_, .f32⟩
  | 33 => ⟨S8x1x1024, .f32⟩
  | 34 => ⟨S8x1x1024, .f32⟩
  | 35 => ⟨S8x2048x1024, .f32⟩
  | 36 => ⟨S8x2048x1024, .f32⟩
  | 37 => ⟨S8x2048x1024, .f32⟩
  | 38 => ⟨S8x2048x1024, .f32⟩
  | 39 => ⟨S8x2048x8704, .f32⟩
  | 40 => ⟨S8x2048x1024, .f32⟩
  | 41 => ⟨S8x2048x256, .f32⟩
  | 42 => ⟨S8x2048x256, .f32⟩
  | 43 => ⟨S8x2048x1024, .f32⟩
  | 44 => ⟨S8x2048x1024, .f32⟩
  | 45 => ⟨S8x2048x1024, .f32⟩
  | 46 => ⟨S8x2048x1024, .f32⟩
  | 47 => ⟨S8x2048x1024, .f32⟩
  | 48 => ⟨S8x2048x2048, .f32⟩
  | 49 => ⟨S8x2048x16x64, .f32⟩
  | 50 => ⟨S8x2048x16x64, .f32⟩
  | 51 => ⟨S_, .f32⟩
  | 52 => ⟨S8x2048x16, .f32⟩
  | 53 => ⟨S8x2048x16x1, .f32⟩
  | 54 => ⟨S_, .f32⟩
  | 55 => ⟨S8x2048x16x1, .f32⟩
  | 56 => ⟨S8x2048x16x1, .f32⟩
  | 57 => ⟨S_, .f32⟩
  | 58 => ⟨S8x2048x16x1, .f32⟩
  | 59 => ⟨S8x2048x16x1, .f32⟩
  | 60 => ⟨S8x2048x16x1, .f32⟩
  | 61 => ⟨S8x2048x16x64, .f32⟩
  | 62 => ⟨S8x2048x16x64, .f32⟩
  | 63 => ⟨S1x1x1x64, .f32⟩
  | 64 => ⟨S8x2048x16x64, .f32⟩
  | 65 => ⟨S8x2048x16x64, .f32⟩
  | 66 => ⟨S8x2048x4x64, .f32⟩
  | 67 => ⟨S8x2048x4x64, .f32⟩
  | 68 => ⟨S_, .f32⟩
  | 69 => ⟨S8x2048x4, .f32⟩
  | 70 => ⟨S8x2048x4x1, .f32⟩
  | 71 => ⟨S_, .f32⟩
  | 72 => ⟨S8x2048x4x1, .f32⟩
  | 73 => ⟨S8x2048x4x1, .f32⟩
  | 74 => ⟨S_, .f32⟩
  | 75 => ⟨S8x2048x4x1, .f32⟩
  | 76 => ⟨S8x2048x4x1, .f32⟩
  | 77 => ⟨S8x2048x4x1, .f32⟩
  | 78 => ⟨S8x2048x4x64, .f32⟩
  | 79 => ⟨S8x2048x4x64, .f32⟩
  | 80 => ⟨S1x1x1x64, .f32⟩
  | 81 => ⟨S8x2048x4x64, .f32⟩
  | 82 => ⟨S8x2048x4x64, .f32⟩
  | 83 => ⟨S8x2048x4x64, .f32⟩
  | 84 => ⟨S2048x1x64, .f32⟩
  | 85 => ⟨S2048x1x64, .f32⟩
  | 86 => ⟨S1x2048x1x64, .f32⟩
  | 87 => ⟨S8x2048x16x64, .f32⟩
  | 88 => ⟨S8x2048x16x64, .f32⟩
  | 89 => ⟨S8x2048x16x16, .f32⟩
  | 90 => ⟨S8x2048x16x16, .f32⟩
  | 91 => ⟨S8x2048x16x16, .f32⟩
  | 92 => ⟨S8x2048x16x16, .f32⟩
  | 93 => ⟨S8x2048x16x16, .f32⟩
  | 94 => ⟨S8x2048x16x16, .f32⟩
  | 95 => ⟨S8x2048x16x64, .f32⟩
  | 96 => ⟨S1x2048x1x64, .f32⟩
  | 97 => ⟨S8x2048x16x64, .f32⟩
  | 98 => ⟨S8x2048x16x64, .f32⟩
  | 99 => ⟨S8x2048x16x64, .f32⟩
  | 100 => ⟨S1x2048x1x64, .f32⟩
  | 101 => ⟨S8x2048x4x64, .f32⟩
  | 102 => ⟨S8x2048x4x64, .f32⟩
  | 103 => ⟨S8x2048x4x16, .f32⟩
  | 104 => ⟨S8x2048x4x16, .f32⟩
  | 105 => ⟨S8x2048x4x16, .f32⟩
  | 106 => ⟨S8x2048x4x16, .f32⟩
  | 107 => ⟨S8x2048x4x16, .f32⟩
  | 108 => ⟨S8x2048x4x16, .f32⟩
  | 109 => ⟨S8x2048x4x64, .f32⟩
  | 110 => ⟨S1x2048x1x64, .f32⟩
  | 111 => ⟨S8x2048x4x64, .f32⟩
  | 112 => ⟨S8x2048x4x64, .f32⟩
  | 113 => ⟨S8x2048x4x64, .f32⟩
  | 114 => ⟨S8x2048x1024, .f32⟩
  | 115 => ⟨S8x1x1024, .f32⟩
  | 116 => ⟨S_, .f32⟩
  | 117 => ⟨S8x1x1024, .f32⟩
  | 118 => ⟨S8x2047x1024, .f32⟩
  | 119 => ⟨S8x2048x1024, .f32⟩
  | 120 => ⟨S8x2047x1024, .f32⟩
  | 121 => ⟨S8x2048x1024, .f32⟩
  | 122 => ⟨S1x1024, .f32⟩
  | 123 => ⟨S1024, .f32⟩
  | 124 => ⟨S1x1x1024, .f32⟩
  | 125 => ⟨S8x2048x1024, .f32⟩
  | 126 => ⟨S8x2048x1024, .f32⟩
  | 127 => ⟨S1x1024, .f32⟩
  | _ => ⟨S8x2048x1024, .f32⟩

abbrev hbmTy0_1 (i : Nat) : BufTy := match i % 128 with
  | 0 => ⟨S1024, .f32⟩
  | 1 => ⟨S1x1x1024, .f32⟩
  | 2 => ⟨S8x2048x1024, .f32⟩
  | 3 => ⟨S8x2048x1024, .f32⟩
  | 4 => ⟨S8x2048x1024, .f32⟩
  | 5 => ⟨S1x1024, .f32⟩
  | 6 => ⟨S1024, .f32⟩
  | 7 => ⟨S1x1x1024, .f32⟩
  | 8 => ⟨S8x2048x1024, .f32⟩
  | 9 => ⟨S8x2048x1024, .f32⟩
  | 10 => ⟨S8x2048x1024, .f32⟩
  | 11 => ⟨S1x1x1024, .f32⟩
  | 12 => ⟨S8x2048x1024, .f32⟩
  | 13 => ⟨S8x2048x1024, .f32⟩
  | 14 => ⟨S8x2048x1024, .f32⟩
  | 15 => ⟨S8x2048x1024, .f32⟩
  | 16 => ⟨S8x2048x1024, .f32⟩
  | 17 => ⟨S_, .f32⟩
  | 18 => ⟨S8x2048x1024, .f32⟩
  | 19 => ⟨S8x2048x1024, .f32⟩
  | 20 => ⟨S_, .f32⟩
  | 21 => ⟨S8x2048x1024, .f32⟩
  | 22 => ⟨S8x2048x1024, .f32⟩
  | 23 => ⟨S8x2048x1024, .f32⟩
  | 24 => ⟨S8x2048x1024, .f32⟩
  | 25 => ⟨S8x2048x1024, .f32⟩
  | 26 => ⟨S8x2048x2x1024, .f32⟩
  | 27 => ⟨S1x1x2x1024, .f32⟩
  | 28 => ⟨S8x2048x2x1024, .f32⟩
  | 29 => ⟨S8x2048x2x1024, .f32⟩
  | 30 => ⟨S8x2048x2x1024, .f32⟩
  | 31 => ⟨S8x2048x2x1024, .f32⟩
  | 32 => ⟨S_, .f32⟩
  | 33 => ⟨S8x2048x2x1024, .f32⟩
  | 34 => ⟨S8x2048x2x1024, .f32⟩
  | 35 => ⟨S_, .f32⟩
  | 36 => ⟨S8x2048x2x1024, .f32⟩
  | 37 => ⟨S8x2048x2x1024, .f32⟩
  | 38 => ⟨S_, .f32⟩
  | 39 => ⟨S8x2048x16x64, .f32⟩
  | 40 => ⟨S8x2048x16x64, .f32⟩
  | 41 => ⟨S8x2048x1024, .f32⟩
  | 42 => ⟨S8x2048x4x128, .f32⟩
  | 43 => ⟨S8x4x128x2048, .f32⟩
  | 44 => ⟨S8x2048x4x128, .f32⟩
  | 45 => ⟨S8x4x2048x128, .f32⟩
  | 46 => ⟨S8x2048x1024, .f32⟩
  | 47 => ⟨S8x2048x1024, .f32⟩
  | 48 => ⟨S_, .f32⟩
  | 49 => ⟨S8x2048x1024, .f32⟩
  | 50 => ⟨S8x2048x1024, .f32⟩
  | 51 => ⟨S_, .f32⟩
  | 52 => ⟨S8x2048x1024, .f32⟩
  | 53 => ⟨S8x2048x1024, .f32⟩
  | 54 => ⟨S8x2048x1024, .f32⟩
  | 55 => ⟨S8x2048x1x1024, .f32⟩
  | 56 => ⟨S8x2048x1024, .f32⟩
  | 57 => ⟨S8x2048x1024, .bf16⟩
  | 58 => ⟨S8x4x128x2048, .bf16⟩
  | 59 => ⟨S8x4x2048x128, .bf16⟩
  | 60 => ⟨S8x2048x1024, .bf16⟩
  | 61 => ⟨S8x2048x1024, .bf16⟩
  | 62 => ⟨S8x2048x1x1024, .f32⟩
  | 63 => ⟨S8x2048x1024, .f32⟩
  | 64 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_9 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_call0_v0 : Ref sig .tc := ⟨.hbm, 143, rfl⟩
abbrev main_call0_v1 : Ref sig .tc := ⟨.hbm, 144, rfl⟩
abbrev main_call0_cst : Ref sig .tc := ⟨.hbm, 145, rfl⟩
abbrev main_call0_v2 : Ref sig .tc := ⟨.hbm, 146, rfl⟩
abbrev main_call0_v3 : Ref sig .tc := ⟨.hbm, 147, rfl⟩
abbrev main_call0_cst_0 : Ref sig .tc := ⟨.hbm, 148, rfl⟩
abbrev main_call0_v4 : Ref sig .tc := ⟨.hbm, 149, rfl⟩
abbrev main_call0_v5 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_10 : Ref sig .tc := ⟨.hbm, 160, rfl⟩
abbrev main_v129 : Ref sig .tc := ⟨.hbm, 161, rfl⟩
abbrev main_v130 : Ref sig .tc := ⟨.hbm, 162, rfl⟩
abbrev main_cst_11 : Ref sig .tc := ⟨.hbm, 163, rfl⟩
abbrev main_v131 : Ref sig .tc := ⟨.hbm, 164, rfl⟩
abbrev main_v132 : Ref sig .tc := ⟨.hbm, 165, rfl⟩
abbrev main_cst_12 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_call1_v0 : Ref sig .tc := ⟨.hbm, 174, rfl⟩
abbrev main_call1_v1 : Ref sig .tc := ⟨.hbm, 175, rfl⟩
abbrev main_call1_cst : Ref sig .tc := ⟨.hbm, 176, rfl⟩
abbrev main_call1_v2 : Ref sig .tc := ⟨.hbm, 177, rfl⟩
abbrev main_call1_v3 : Ref sig .tc := ⟨.hbm, 178, rfl⟩
abbrev main_call1_cst_0 : Ref sig .tc := ⟨.hbm, 179, rfl⟩
abbrev main_call1_v4 : Ref sig .tc := ⟨.hbm, 180, rfl⟩
abbrev main_call1_v5 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩

abbrev nD : Nat := 1
abbrev τ : Topo := Topo.v7x

variable {F : FTy → Type} [FloatOps F]
-- ==== Proof.Body.lean ====
/-
  What the attention kernel computes at one grid point, as a function of the blocks it is given.
  The body treats the heads two by two. Every pair is the same function of its 128 query lanes, of the keys and values of its group and
  of 128 lanes of the output gate; the results lie side by side in the scratch, which the two projections at the end read whole.
-/
module

public import proofs.«01_k».proof.Proof.Gen.KernelIdeal.Value
public import Idealize.ShloMosaic.Lib.Pipeline.ReadBack
public import Idealize.ShloMosaic.Lib.Pointwise
public import Idealize.ShloMosaic.Lib.Pipeline.ValueKit

@[expose] public section

noncomputable section

namespace Cert.Attn

open Idealize.ShloMosaic Cert.KernelIdeal Cert.KernelIdeal.Gen

variable {F : FTy → Type} [FloatOps F]

/-- The lanes of the pair's first head: those below 64. -/
def lowLanes : IVec S256x128 1 := cmpi .slt (iota .tc S256x128 32 [1] iota_S256x128_d1_w32) (broadcast S256x128 64#32)

/-- The lanes of the pair's second head. -/
def highLanes : IVec S256x128 1 := xori lowLanes (constantI S256x128 1 1#1)

/-- Scores of one head against every key: the queries with the other head's lanes set to zero, times the keys, which hold the group's head twice. -/
def scores (mask : IVec S256x128 1) (q : Vec F S1x256x128 .bf16) (k : Vec F S1x1x128x2304 .bf16) : FVec F S256x2304 .f32 :=
  matmul dot_S256x128_S128x2304_S256x2304_1_0_0_1_n_n none
    (truncf .bf16 (select mask (extf .f32 (shapeCast S256x128 q shapeCasts_S1x256x128_S256x128) bitsLt_bf16_f32) (broadcast S256x128 (Scalar.ofBits .f32 0x00000000#32))) bitsLt_bf16_f32)
    (shapeCast S128x2304 k shapeCasts_S1x1x128x2304_S128x2304) (constant S256x2304 .f32 0x00000000#32)

/-- The exponentials of the scores, each row shifted by its maximum. -/
def weights (s : FVec F S256x2304 .f32) : FVec F S256x2304 .f32 :=
  exp (subf s (broadcastTo S256x2304
    (shapeCast S256x1 (multiReduction .maximumf [1] S256 s 0xFF800000#32 reduces_S256x2304_S256 (.inl rfl) rfl) shapeCasts_S256_S256x1) broadcasts_S256x1_S256x2304))

/-- The weights times the values, divided by the sum of the weights. -/
def mixed (p : FVec F S256x2304 .f32) (v : Vec F S1x1x2304x128 .bf16) : FVec F S256x128 .f32 :=
  divf
    (matmul dot_S256x2304_S2304x128_S256x128_1_0_0_1_n_n none (truncf .bf16 p bitsLt_bf16_f32) (shapeCast S2304x128 v shapeCasts_S1x1x2304x128_S2304x128)
      (constant S256x128 .f32 0x00000000#32))
    (broadcastTo S256x128 (shapeCast S256x1 (multiReduction .add [1] S256 p 0x00000000#32 reduces_S256x2304_S256 (.inl rfl) rfl) shapeCasts_S256_S256x1) broadcasts_S256x1_S256x128)

/-- One pair of heads: each lane takes its own head's mixture, and the output gate multiplies it. -/
def pair (q : Vec F S1x256x128 .bf16) (k : Vec F S1x1x128x2304 .bf16) (v : Vec F S1x1x2304x128 .bf16) (g : Vec F S1x256x128 .bf16) : FVec F S256x128 .bf16 :=
  shapeCast S256x128
    (truncf .bf16
      (mulf (select lowLanes (mixed (weights (scores lowLanes q k)) v) (mixed (weights (scores highLanes q k)) v))
        (extf .f32 (shapeCast S256x128 g shapeCasts_S1x256x128_S256x128) bitsLt_bf16_f32)) bitsLt_bf16_f32)
    shapeCasts_S256x128_S256x128

theorem lanes_inb (j : Fin 8) : ∀ a, (![0, 0, 128 * j.val] : Fin S1x256x1024.rank → ℕ) a + S1x256x128.size a ≤ S1x256x1024.size a := by
  revert j; decide +kernel

theorem keys_inb (j : Fin 8) : ∀ a, (![0, j.val / 2, 0, 0] : Fin S1x4x128x2304.rank → ℕ) a + S1x1x128x2304.size a ≤ S1x4x128x2304.size a := by
  revert j; decide +kernel

theorem vals_inb (j : Fin 8) : ∀ a, (![0, j.val / 2, 0, 0] : Fin S1x4x2304x128.rank → ℕ) a + S1x1x2304x128.size a ≤ S1x4x2304x128.size a := by
  revert j; decide +kernel

/-- Pair `j` of a block: lanes `128 j …` of the queries and of the gate, the keys and values of group `j / 2`. -/
def pairAt (x0 : Vec F S1x256x1024 .bf16) (x1 : Vec F S1x4x128x2304 .bf16) (x2 : Vec F S1x4x2304x128 .bf16) (x3 : Vec F S1x256x1024 .bf16) (j : Fin 8) : FVec F S256x128 .bf16 :=
  pair (View.ld x0 (Rect.unit (s := S1x256x1024) ![0, 0, 128 * j.val] S1x256x128.size (lanes_inb j)))
    (View.ld x1 (Rect.unit (s := S1x4x128x2304) ![0, j.val / 2, 0, 0] S1x1x128x2304.size (keys_inb j)))
    (View.ld x2 (Rect.unit (s := S1x4x2304x128) ![0, j.val / 2, 0, 0] S1x1x2304x128.size (vals_inb j)))
    (View.ld x3 (Rect.unit (s := S1x256x1024) ![0, 0, 128 * j.val] S1x256x128.size (lanes_inb j)))

/-- The scratch: the eight pairs side by side. -/
def heads (x0 : Vec F S1x256x1024 .bf16) (x1 : Vec F S1x4x128x2304 .bf16) (x2 : Vec F S1x4x2304x128 .bf16) (x3 : Vec F S1x256x1024 .bf16) : Vec F S256x1024 .bf16 :=
  fun y => pairAt x0 x1 x2 x3 ⟨(y 1).val / 128, by have : (y 1).val < 1024 := (y 1).isLt; omega⟩
    (ix2 (y 0) ⟨(y 1).val % 128, Nat.mod_lt _ (by decide)⟩)

theorem store_inb (j : Fin 8) : ∀ a, (![0, 128 * j.val] : Fin S256x1024.rank → ℕ) a + S256x128.size a ≤ S256x1024.size a := by
  revert j; decide +kernel

/-- The store of pair `j` is the part of `heads` at lanes `128 j …`. -/
theorem heads_at (x0 : Vec F S1x256x1024 .bf16) (x1 : Vec F S1x4x128x2304 .bf16) (x2 : Vec F S1x4x2304x128 .bf16) (x3 : Vec F S1x256x1024 .bf16) (j : Fin 8)
    (x : (Rect.unit (s := S256x1024) ![0, 128 * j.val] S256x128.size (store_inb j)).shape.Idx) :
    pairAt x0 x1 x2 x3 j x = heads x0 x1 x2 x3 ((Rect.unit (s := S256x1024) ![0, 128 * j.val] S256x128.size (store_inb j)).emb x) := by
  have hj := j.isLt
  have hx : (x 1).val < 128 := (x 1).isLt
  have h0 := ValueKit.rect_emb_unit_val (s := S256x1024) ![0, 128 * j.val] S256x128.size (store_inb j) x 0
  have h1 := ValueKit.rect_emb_unit_val (s := S256x1024) ![0, 128 * j.val] S256x128.size (store_inb j) x 1
  have h0' : ((Rect.unit (s := S256x1024) ![0, 128 * j.val] S256x128.size (store_inb j)).emb x 0).val = (x 0).val := h0.trans (Nat.zero_add _)
  have h1' : ((Rect.unit (s := S256x1024) ![0, 128 * j.val] S256x128.size (store_inb j)).emb x 1).val = 128 * j.val + (x 1).val := h1
  unfold heads
  congr 1
  · apply Fin.ext; simp only [h1']; omega
  · funext a
    match a with
    | ⟨0, _⟩ => exact Fin.ext h0'.symm
    | ⟨1, _⟩ => apply Fin.ext; show (x 1).val = _ % 128; rw [h1']; omega

set_option maxHeartbeats 2000000 in
/-- What the kernel leaves at a grid point: the two projections of the eight pairs, gated and added to what came before. -/
theorem outsAt_eq (m : (ℓ : Loc nD τ sig) → Buf (Elt F) ℓ) (c : Dev nD) (t : Fin cfg0.N) :
    outsAt0 m c t = k0_pay1 (k0_pay51 (heads (iblk m c 0 t) (iblk m c 1 t) (iblk m c 2 t) (iblk m c 3 t)) (iblk m c 8 t) (iblk m c 4 t)
      (iblk m c 5 t) (iblk m c 9 t) (iblk m c 6 t) (iblk m c 7 t)) := by
  unfold outsAt0
  frame_out
  refine congrArg (fun z => k0_pay1 (k0_pay51 z _ _ _ _ _ _)) ?_
  rw [View.readCov_eq_canon']
  funext y
  have hy : (Rect.unit (s := S256x1024) ![0, 0] ![256, 1024] inb_S256x1024_S256x1024_0_0).toLoadRect.idx y = y :=
    funext fun a => Fin.ext (by
      show (![0, 0] : Fin 2 → ℕ) a + 1 * (y a).val = (y a).val
      have : (![0, 0] : Fin 2 → ℕ) a = 0 := by revert a; decide
      omega)
  rw [hy]
  refine View.canon_apply_of_pieces (S := S256x1024) _ _ ?_ _ (View.cover_of_tiledL (s := S256x1024) _ S256x128.size (by sl_kernel_rfl) y)
  simp only [List.forall_mem_cons, List.not_mem_nil, false_imp_iff, implies_true, and_true]
  exact ⟨heads_at _ _ _ _ 7, heads_at _ _ _ _ 6, heads_at _ _ _ _ 5, heads_at _ _ _ _ 4, heads_at _ _ _ _ 3, heads_at _ _ _ _ 2, heads_at _ _ _ _ 1, heads_at _ _ _ _ 0⟩

end Cert.Attn
-- ==== Proof.Softmax.lean ====
/-
  The mathematics of one row of attention on the extended reals: dividing the weighted sum of the values by the sum of the weights is summing the
  values times the divided weights. It holds when every score is a real number, whatever the values are; with an infinite score it fails.
-/
module

public import Idealize.ShloMosaic.PureOps.Ideal

@[expose] public section

noncomputable section

namespace Cert.Softmax

open Idealize.ShloMosaic

/-- An extended real that is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, by norm_cast⟩

theorem IsReal.add {x y : EReal} : IsReal x → IsReal y → IsReal (x + y) := by
  rintro ⟨a, rfl⟩ ⟨b, rfl⟩; exact ⟨a + b, by norm_cast⟩

theorem IsReal.sum {ι : Type*} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem coe_sum {ι : Type*} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- `|x| < ∞`, as the comparison states it, says that `x` is a real number. -/
theorem isReal_of_abs_lt {x : EReal} (h : max x (-x) < ⊤) : IsReal x := by
  induction x using EReal.rec with
  | bot => simp at h
  | coe r => exact ⟨r, rfl⟩
  | top => simp at h

/-- A real factor that is not negative goes inside a sum of extended reals. -/
theorem sum_mul_coe {ι : Type*} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The largest score of a row. -/
def top {n : ℕ} (s : Fin n → EReal) : EReal := Finset.univ.fold max ⊥ s

theorem top_isReal {n : ℕ} (s : Fin (n + 1) → EReal) (h : ∀ t, IsReal (s t)) : IsReal (top s) := by
  obtain ⟨t, -, ht⟩ := Finset.exists_mem_eq_sup (Finset.univ : Finset (Fin (n + 1))) Finset.univ_nonempty s
  obtain ⟨r, hr⟩ := h t
  exact ⟨r, by rw [← hr, ← ht]; rfl⟩

/-- A row's weights: the exponentials of its scores less the largest. -/
def weight {n : ℕ} (s : Fin n → EReal) (t : Fin n) : EReal := Ideal.exp (s t - top s)

theorem weight_pos {n : ℕ} (s : Fin (n + 1) → EReal) (h : ∀ t, IsReal (s t)) (t : Fin (n + 1)) : ∃ r : ℝ, 0 < r ∧ weight s t = (r : EReal) := by
  obtain ⟨a, ha⟩ := h t
  obtain ⟨b, hb⟩ := top_isReal s h
  refine ⟨Real.exp (a - b), Real.exp_pos _, ?_⟩
  unfold weight
  rw [ha, hb, ← EReal.coe_sub, Ideal.exp_coe]

/-- The weighted sum of the values over the sum of the weights. -/
def rowQuot {n : ℕ} (s v : Fin n → EReal) : EReal := Ideal.div (∑ t, weight s t * v t) (∑ t, weight s t)

/-- The values times the weights divided by their sum, added up. -/
def rowMix {n : ℕ} (s v : Fin n → EReal) : EReal := ∑ t, v t * Ideal.div (weight s t) (∑ u, weight s u)

theorem sum_pos_coe {n : ℕ} (f : Fin (n + 1) → EReal) (h : ∀ t, ∃ r : ℝ, 0 < r ∧ f t = (r : EReal)) : ∃ r : ℝ, 0 < r ∧ ∑ t, f t = (r : EReal) := by
  choose r hr hf using h
  refine ⟨∑ t, r t, Finset.sum_pos (fun t _ => hr t) Finset.univ_nonempty, ?_⟩
  rw [coe_sum]
  exact Finset.sum_congr rfl fun t _ => hf t

theorem rowQuot_eq_rowMix {n : ℕ} (s v : Fin (n + 1) → EReal) (h : ∀ t, IsReal (s t)) : rowQuot s v = rowMix s v := by
  obtain ⟨d, hd, hD⟩ := sum_pos_coe (weight s) (weight_pos s h)
  unfold rowQuot rowMix
  rw [hD, Ideal.div_coe hd.ne', sum_mul_coe _ _ (by positivity)]
  refine Finset.sum_congr rfl fun t _ => ?_
  rw [Ideal.div_coe hd.ne', mul_comm (weight s t), mul_assoc]

end Cert.Softmax
-- ==== Proof.PairRead.lean ====
/-
  One pair of heads read at an index, at the ideal instance: sums, maxima and quotients of extended reals.
-/
module

public import proofs.«01_k».proof.Proof.Body
public import proofs.«01_k».proof.Proof.Softmax
public import Idealize.ShloMosaic.PureOps.Ideal

@[expose] public section

noncomputable section

namespace Cert.Attn

open Idealize.ShloMosaic Cert.KernelIdeal Cert.KernelIdeal.Gen

theorem low_bit : ∀ l : Fin 128, IntOp.cmpi .slt (BitVec.ofNat 32 l.val) 64#32 = if l.val < 64 then 1#1 else 0#1 := by decide +kernel

theorem low_read (r : Fin 256) (l : Fin 128) : lowLanes (ix2 r l) = if l.val < 64 then 1#1 else 0#1 := by
  rw [← low_bit]; unfold lowLanes; pointwise

theorem high_read (r : Fin 256) (l : Fin 128) : highLanes (ix2 r l) = if l.val < 64 then 0#1 else 1#1 := by
  show IntOp.xori (lowLanes (ix2 r l)) 1#1 = _
  rw [low_read]; split <;> rfl

/-- The two heads of a pair: the mask of head `h` is set at the lanes `l` with `l / 64 = h`. -/
def laneMask (h : Fin 2) : IVec S256x128 1 := if h.val = 0 then lowLanes else highLanes

theorem laneMask_read (h : Fin 2) (r : Fin 256) (l : Fin 128) : laneMask h (ix2 r l) = if l.val / 64 = h.val then 1#1 else 0#1 := by
  have := l.isLt
  match h with
  | 0 => exact (low_read r l).trans (if_congr (by simp) rfl rfl)
  | 1 => exact (high_read r l).trans (by split <;> simp <;> omega)

/-- The masked product over 128 lanes is the product over the head's 64. -/
theorem scores_read (h : Fin 2) (q : Vec Ideal S1x256x128 .bf16) (k : Vec Ideal S1x1x128x2304 .bf16) (r : Fin 256) (t : Fin 2304) :
    scores (laneMask h) q k (ix2 r t)
      = ∑ d : Fin 64, (q (ix3 0 r ⟨64 * h.val + d.val, by omega⟩) : EReal) * k (ix4 0 0 ⟨64 * h.val + d.val, by omega⟩ t) := by
  unfold scores
  pointwise
  have e : ∀ l : Fin 128, Scalar.select (laneMask h (ix2 r l)) ((q (ix3 0 r l) : EReal) * k (ix4 0 0 l t)) 0
      = if l.val / 64 = h.val then (q (ix3 0 r l) : EReal) * k (ix4 0 0 l t) else 0 := fun l => by
    rw [laneMask_read]; split <;> rfl
  simp only [e]
  rw [Fin.sum_univ_two_halves 64 64 rfl]
  match h with
  | 0 =>
    refine (congrArg₂ (· + ·) (Finset.sum_congr rfl fun d _ => ?_) (Finset.sum_eq_zero fun d _ => ?_)).trans (add_zero _)
    · rw [if_pos (by simp)]; congr 2 <;> (congr 1; simp)
    · rw [if_neg (by simp)]
  | 1 =>
    refine (congrArg₂ (· + ·) (Finset.sum_eq_zero fun d _ => ?_) (Finset.sum_congr rfl fun d _ => ?_)).trans (zero_add _)
    · rw [if_neg (by simp; omega)]
    · rw [if_pos (by simp)]; congr 2 <;> (congr 1; simp)

theorem neg_inf : Ideal.ofBits FTy.f32 0xFF800000#32 = ⊥ := by simp [Ideal.ofBits, Ideal.ieee]

theorem weights_read (s : FVec Ideal S256x2304 .f32) (r : Fin 256) (t : Fin 2304) :
    weights s (ix2 r t) = Softmax.weight (fun u : Fin 2304 => (s (ix2 r u) : EReal)) t := by
  unfold weights
  pointwise
  rw [neg_inf]; rfl

theorem mixed_read (p : FVec Ideal S256x2304 .f32) (v : Vec Ideal S1x1x2304x128 .bf16) (r : Fin 256) (l : Fin 128) :
    mixed p v (ix2 r l) = Ideal.div (∑ t : Fin 2304, p (ix2 r t) * v (ix4 0 0 t l)) (∑ t : Fin 2304, p (ix2 r t)) := by
  unfold mixed
  pointwise

/-- One lane of a pair: the row of its head, times the gate. -/
theorem pair_read (q : Vec Ideal S1x256x128 .bf16) (k : Vec Ideal S1x1x128x2304 .bf16) (v : Vec Ideal S1x1x2304x128 .bf16) (g : Vec Ideal S1x256x128 .bf16)
    (r : Fin 256) (l : Fin 128) :
    pair q k v g (ix2 r l) =
      Softmax.rowQuot
        (fun t : Fin 2304 => ∑ d : Fin 64, (q (ix3 0 r ⟨64 * (l.val / 64) + d.val, by omega⟩) : EReal) * k (ix4 0 0 ⟨64 * (l.val / 64) + d.val, by omega⟩ t))
        (fun t => v (ix4 0 0 t l)) * (g (ix3 0 r l) : EReal) := by
  have hm : pair q k v g (ix2 r l) = mixed (weights (scores (laneMask ⟨l.val / 64, by omega⟩) q k)) v (ix2 r l) * (g (ix3 0 r l) : EReal) := by
    unfold pair
    pointwise
    rw [low_read]
    unfold laneMask
    by_cases hl : l.val < 64
    · rw [if_pos hl, if_pos (show l.val / 64 = 0 by omega)]; rfl
    · rw [if_neg hl, if_neg (show ¬ l.val / 64 = 0 by omega)]; rfl
  rw [hm, mixed_read]
  simp only [weights_read, scores_read]
  rfl

end Cert.Attn
-- ==== Proof.HeadsRead.lean ====
/-
  The scratch and the tail of the attention kernel at one entry, as formulas over the blocks' entries.
-/
module

public import proofs.«01_k».proof.Proof.Body
public import proofs.«01_k».proof.Proof.PairRead

@[expose] public section

noncomputable section

namespace Cert.Attn

open Idealize.ShloMosaic Cert.KernelIdeal Cert.KernelIdeal.Gen

/-- Lane `c` of the scratch: head `c / 64`'s attention (keys and values of group `c / 256`) times the output gate. -/
theorem heads_read (x0 : Vec Ideal S1x256x1024 .bf16) (x1 : Vec Ideal S1x4x128x2304 .bf16) (x2 : Vec Ideal S1x4x2304x128 .bf16) (x3 : Vec Ideal S1x256x1024 .bf16)
    (r : Fin 256) (c : Fin 1024) :
    heads x0 x1 x2 x3 (ix2 r c) =
      Softmax.rowQuot
        (fun t : Fin 2304 => ∑ d : Fin 64, (x0 (ix3 0 r ⟨64 * (c.val / 64) + d.val, by omega⟩) : EReal)
          * x1 (ix4 0 ⟨c.val / 256, by omega⟩ ⟨64 * (c.val / 64 % 2) + d.val, by omega⟩ t))
        (fun t => x2 (ix4 0 ⟨c.val / 256, by omega⟩ t ⟨c.val % 128, by omega⟩)) * (x3 (ix3 0 r c) : EReal) := by
  have hc := c.isLt
  have hq : ∀ (x : Vec Ideal S1x256x1024 .bf16) (j : Fin 8) (l : Fin 128) (w : Fin 1024), w.val = 128 * j.val + l.val →
      View.ld x (Rect.unit (s := S1x256x1024) ![0, 0, 128 * j.val] S1x256x128.size (lanes_inb j)) (ix3 0 r l) = x (ix3 0 r w) := by
    intro x j l w e
    refine congrArg x (funext fun a => Fin.ext ?_)
    match a with
    | ⟨0, _⟩ => rfl
    | ⟨1, _⟩ => show 0 + 1 * r.val = r.val; omega
    | ⟨2, _⟩ => show 128 * j.val + 1 * l.val = w.val; omega
  have hk : ∀ (j : Fin 8) (l : Fin 128) (t : Fin 2304) (g : Fin 4), g.val = j.val / 2 →
      View.ld x1 (Rect.unit (s := S1x4x128x2304) ![0, j.val / 2, 0, 0] S1x1x128x2304.size (keys_inb j)) (ix4 0 0 l t) = x1 (ix4 0 g l t) := by
    intro j l t g e
    refine congrArg x1 (funext fun a => Fin.ext ?_)
    match a with
    | ⟨0, _⟩ => rfl
    | ⟨1, _⟩ => show j.val / 2 + 1 * 0 = g.val; omega
    | ⟨2, _⟩ => show 0 + 1 * l.val = l.val; omega
    | ⟨3, _⟩ => show 0 + 1 * t.val = t.val; omega
  have hv : ∀ (j : Fin 8) (l : Fin 128) (t : Fin 2304) (g : Fin 4), g.val = j.val / 2 →
      View.ld x2 (Rect.unit (s := S1x4x2304x128) ![0, j.val / 2, 0, 0] S1x1x2304x128.size (vals_inb j)) (ix4 0 0 t l) = x2 (ix4 0 g t l) := by
    intro j l t g e
    refine congrArg x2 (funext fun a => Fin.ext ?_)
    match a with
    | ⟨0, _⟩ => rfl
    | ⟨1, _⟩ => show j.val / 2 + 1 * 0 = g.val; omega
    | ⟨2, _⟩ => show 0 + 1 * t.val = t.val; omega
    | ⟨3, _⟩ => show 0 + 1 * l.val = l.val; omega
  show pairAt x0 x1 x2 x3 ⟨c.val / 128, by omega⟩ (ix2 r ⟨c.val % 128, Nat.mod_lt _ (by decide)⟩) = _
  unfold pairAt
  rw [pair_read]
  refine congrArg₂ (· * ·) (congrArg₂ Softmax.rowQuot (funext fun t => Finset.sum_congr rfl fun d _ => ?_) (funext fun t => ?_)) ?_
  · refine congrArg₂ (· * ·) (hq x0 _ _ ⟨64 * (c.val / 64) + d.val, by omega⟩ (by simp only; omega)) ?_
    refine (hk _ _ t ⟨c.val / 256, by omega⟩ (by simp only; omega)).trans ?_
    exact congrArg (fun z => x1 (ix4 0 ⟨c.val / 256, by omega⟩ z t)) (Fin.ext (by simp only; omega))
  · exact hv _ _ t ⟨c.val / 256, by omega⟩ (by simp only; omega)
  · exact hq x3 _ _ c (by simp only; omega)

/-- The tail at one entry: the first projection of the scratch, gated and added to the convolution branch, the second projection, gated, the residual. -/
theorem tail_read (h : Vec Ideal S256x1024 .bf16) (wab : Vec Ideal S1024x1024 .bf16) (g0 : Vec Ideal S1x256x1024 .bf16) (t1 : Vec Ideal S1x256x1024 .f32)
    (wout : Vec Ideal S1024x1024 .bf16) (x : Vec Ideal S1x256x1024 .f32) (gate : Vec Ideal S1x1x1024 .f32) (r : Fin 256) (n : Fin 1024) :
    k0_pay1 (k0_pay51 h wab g0 t1 wout x gate) (ix3 0 r n) =
      (x (ix3 0 r n) : EReal) + (gate (ix3 0 0 n) : EReal)
        * ∑ e : Fin 1024, ((g0 (ix3 0 r e) : EReal) * (∑ c : Fin 1024, (h (ix2 r c) : EReal) * wab (ix2 c e)) + t1 (ix3 0 r e)) * wout (ix2 e n) := by
  unfold k0_pay1 k0_pay51
  pointwise

end Cert.Attn
-- ==== Proof.Layer.lean ====
/-
  The attention half of the layer as a formula over the argument arrays' entries: the value both programs are read to.
-/
module

public import proofs.«01_k».proof.Proof.Softmax
public import Idealize.ShloMosaic.Lib.Pointwise

@[expose] public section

noncomputable section

namespace Cert.Layer

open Idealize.ShloMosaic Cert.Softmax

/-- An array of extended reals. -/
abbrev Arr3 (a b c : ℕ) : Type := (⟨3, ![a, b, c]⟩ : Shape).Idx → EReal
abbrev Arr4 (a b c d : ℕ) : Type := (⟨4, ![a, b, c, d]⟩ : Shape).Idx → EReal
abbrev Arr2 (a b : ℕ) : Type := (⟨2, ![a, b]⟩ : Shape).Idx → EReal

/-- The context's 256 rows, then the latents' 2048: row `t` of group `g`. -/
def joined (c : Arr4 8 256 4 64) (x : Arr4 8 2048 4 64) (b : Fin 8) (g : Fin 4) (t : Fin 2304) (d : Fin 64) : EReal :=
  if h : t.val < 256 then c (ix4 b ⟨t.val, h⟩ g d) else x (ix4 b ⟨t.val - 256, by omega⟩ g d)

/-- The score of query `i` against key `t` in head `n`, whose group is `n / 4`. -/
def score (q : Arr3 8 2048 1024) (kc : Arr4 8 256 4 64) (kx : Arr4 8 2048 4 64) (b : Fin 8) (i : Fin 2048) (n : Fin 16) (t : Fin 2304) : EReal :=
  ∑ d : Fin 64, q (ix3 b i ⟨64 * n.val + d.val, by omega⟩) * joined kc kx b ⟨n.val / 4, by omega⟩ t d

theorem score_isReal {q : Arr3 8 2048 1024} {kc : Arr4 8 256 4 64} {kx : Arr4 8 2048 4 64} (hq : ∀ i, IsReal (q i)) (hc : ∀ i, IsReal (kc i)) (hx : ∀ i, IsReal (kx i))
    (b : Fin 8) (i : Fin 2048) (n : Fin 16) (t : Fin 2304) : IsReal (score q kc kx b i n t) := by
  refine IsReal.sum _ fun d => (hq _).mul ?_
  unfold joined
  split
  · exact hc _
  · exact hx _

/-- The values of lane `c`'s head, at that lane. -/
def laneVals (vc : Arr4 8 256 4 64) (vx : Arr4 8 2048 4 64) (b : Fin 8) (c : Fin 1024) (t : Fin 2304) : EReal :=
  joined vc vx b ⟨c.val / 256, by omega⟩ t ⟨c.val % 64, by omega⟩

/-- After attention `att` at a token (lane by lane): the output gate, the first projection, the merge with the convolution branch, the second projection,
    the residual. -/
def merged (att : Fin 8 → Fin 2048 → Fin 1024 → EReal) (sza g0 t1 x : Arr3 8 2048 1024) (mod : Arr3 16 1 3072) (wab wout : Arr2 1024 1024)
    (b : Fin 8) (i : Fin 2048) (n : Fin 1024) : EReal :=
  x (ix3 b i n) + mod (ix3 ⟨b.val, by omega⟩ 0 ⟨2048 + n.val, by omega⟩)
    * ∑ e : Fin 1024, (g0 (ix3 b i e) * (∑ c : Fin 1024, att b i c * sza (ix3 b i c) * wab (ix2 c e)) + t1 (ix3 b i e)) * wout (ix2 e n)

/-- Attention with the division after the sum, lane `c`. -/
def attQuot (q : Arr3 8 2048 1024) (kc vc : Arr4 8 256 4 64) (kx vx : Arr4 8 2048 4 64) (b : Fin 8) (i : Fin 2048) (c : Fin 1024) : EReal :=
  rowQuot (score q kc kx b i ⟨c.val / 64, by omega⟩) (laneVals vc vx b c)

/-- Attention with the softmax divided before the sum, lane `c`. -/
def attMix (q : Arr3 8 2048 1024) (kc vc : Arr4 8 256 4 64) (kx vx : Arr4 8 2048 4 64) (b : Fin 8) (i : Fin 2048) (c : Fin 1024) : EReal :=
  rowMix (score q kc kx b i ⟨c.val / 64, by omega⟩) (laneVals vc vx b c)

theorem attQuot_eq {q : Arr3 8 2048 1024} {kc vc : Arr4 8 256 4 64} {kx vx : Arr4 8 2048 4 64} (hq : ∀ i, IsReal (q i)) (hc : ∀ i, IsReal (kc i)) (hx : ∀ i, IsReal (kx i)) :
    attQuot q kc vc kx vx = attMix q kc vc kx vx := by
  funext b i c
  exact rowQuot_eq_rowMix _ _ (score_isReal hq hc hx b i _)

end Cert.Layer
-- ==== Proof.Prep.lean ====
/-
  The arrays the kernel program prepares on the host, at an entry: keys and values of the context and of the latents joined along the rows,
  each group's 64 lanes standing twice, keys transposed; and the two weight matrices, whose casts are the identity here.
-/
module

public import proofs.«01_k».proof.Proof.Gen.KernelIdeal.Value
public import proofs.«01_k».proof.Proof.Layer
public import Idealize.ShloMosaic.Lib.Pointwise
public import Idealize.ShloMosaic.Lib.StableHlo.Run

@[expose] public section

noncomputable section

namespace Cert.Attn

open Idealize.ShloMosaic Idealize.ShloMosaic.TcCoe Cert.KernelIdeal Cert.KernelIdeal.Gen Cert.Layer

variable (m : (ℓ : Loc nD τ sig) → Buf (Elt Ideal) ℓ) (c : Dev nD)

/-- The arguments, as arrays of extended reals: queries, the context's keys and values, the latents' keys and values, output gate, merge gate, convolution branch,
    residual, modulation, the two weight matrices. -/
abbrev argQ : Arr3 8 2048 1024 := m ((c : Thread nD τ).loc main_arg0)
abbrev argKc : Arr4 8 256 4 64 := m ((c : Thread nD τ).loc main_arg1)
abbrev argVc : Arr4 8 256 4 64 := m ((c : Thread nD τ).loc main_arg2)
abbrev argKx : Arr4 8 2048 4 64 := m ((c : Thread nD τ).loc main_arg3)
abbrev argVx : Arr4 8 2048 4 64 := m ((c : Thread nD τ).loc main_arg4)
abbrev argSza : Arr3 8 2048 1024 := m ((c : Thread nD τ).loc main_arg5)
abbrev argG0 : Arr3 8 2048 1024 := m ((c : Thread nD τ).loc main_arg6)
abbrev argT1 : Arr3 8 2048 1024 := m ((c : Thread nD τ).loc main_arg7)
abbrev argX : Arr3 8 2048 1024 := m ((c : Thread nD τ).loc main_arg8)
abbrev argMod : Arr3 16 1 3072 := m ((c : Thread nD τ).loc main_arg9)
abbrev argWab : Arr2 1024 1024 := m ((c : Thread nD τ).loc main_arg10)
abbrev argWout : Arr2 1024 1024 := m ((c : Thread nD τ).loc main_arg11)

/-- The joined keys, transposed: lane `l` of group `g` is dimension `l % 64`. -/
theorem keys_prep (b : Fin 8) (g : Fin 4) (l : Fin 128) (t : Fin 2304) (d : Fin 64) (hd : l.val % 64 = d.val) :
    V m c main_v10 (ix4 b g l t) = joined (argKc m c) (argKx m c) b g t d := by
  have e : V m c main_v10 = concatenate S8x4x128x2304 3
      [⟨S8x4x128x256, transpose S8x4x128x256 [0, 2, 3, 1] (concatenate S8x256x4x128 3 [⟨S8x256x4x64, argKc m c⟩, ⟨S8x256x4x64, argKc m c⟩] concatenates_S8x256x4x64_S8x256x4x64_S8x256x4x128_d3) transposes_S8x256x4x128_S8x4x128x256_0_2_3_1⟩,
       ⟨S8x4x128x2048, transpose S8x4x128x2048 [0, 2, 3, 1] (concatenate S8x2048x4x128 3 [⟨S8x2048x4x64, argKx m c⟩, ⟨S8x2048x4x64, argKx m c⟩] concatenates_S8x2048x4x64_S8x2048x4x64_S8x2048x4x128_d3) transposes_S8x2048x4x128_S8x4x128x2048_0_2_3_1⟩]
      concatenates_S8x4x128x256_S8x4x128x2048_S8x4x128x2304_d3 := by
    show StableHlo.after hostOps0 _ (Proc.devRef .tc main_v10) = _
    after_results
  rw [e]
  generalize argKc m c = kc
  generalize argKx m c = kx
  have hl := l.isLt
  unfold joined
  pointwise
  split_ifs
  all_goals
    first
    | exact congrArg (fun z => kc (ix4 b _ g z)) (Fin.ext (by simp only; omega))
    | exact congrArg (fun z => kx (ix4 b _ g z)) (Fin.ext (by simp only; omega))

/-- The joined values: lane `l` of group `g` is dimension `l % 64`. -/
theorem vals_prep (b : Fin 8) (g : Fin 4) (t : Fin 2304) (l : Fin 128) (d : Fin 64) (hd : l.val % 64 = d.val) :
    V m c main_v11 (ix4 b g t l) = joined (argVc m c) (argVx m c) b g t d := by
  have e : V m c main_v11 = concatenate S8x4x2304x128 2
      [⟨S8x4x256x128, transpose S8x4x256x128 [0, 2, 1, 3] (concatenate S8x256x4x128 3 [⟨S8x256x4x64, argVc m c⟩, ⟨S8x256x4x64, argVc m c⟩] concatenates_S8x256x4x64_S8x256x4x64_S8x256x4x128_d3) transposes_S8x256x4x128_S8x4x256x128_0_2_1_3⟩,
       ⟨S8x4x2048x128, transpose S8x4x2048x128 [0, 2, 1, 3] (concatenate S8x2048x4x128 3 [⟨S8x2048x4x64, argVx m c⟩, ⟨S8x2048x4x64, argVx m c⟩] concatenates_S8x2048x4x64_S8x2048x4x64_S8x2048x4x128_d3) transposes_S8x2048x4x128_S8x4x2048x128_0_2_1_3⟩]
      concatenates_S8x4x256x128_S8x4x2048x128_S8x4x2304x128_d2 := by
    show StableHlo.after hostOps0 _ (Proc.devRef .tc main_v11) = _
    after_results
  rw [e]
  generalize argVc m c = vc
  generalize argVx m c = vx
  have hl := l.isLt
  unfold joined
  pointwise
  split_ifs
  all_goals
    first
    | exact congrArg (fun z => vc (ix4 b _ g z)) (Fin.ext (by simp only; omega))
    | exact congrArg (fun z => vx (ix4 b _ g z)) (Fin.ext (by simp only; omega))

/-- The first weight matrix as the kernel finds it. -/
theorem wab_prep (i : S1024x1024.Idx) : V m c main_v8 i = argWab m c i := by
  have e : V m c main_v8 = (truncf .bf16 (argWab m c : FVec Ideal S1024x1024 .f32) bitsLt_bf16_f32 : FVec Ideal S1024x1024 .bf16) := by
    show StableHlo.after hostOps0 _ (Proc.devRef .tc main_v8) = _
    after_results
  rw [e]
  rfl

/-- The second weight matrix as the kernel finds it. -/
theorem wout_prep (i : S1024x1024.Idx) : V m c main_v9 i = argWout m c i := by
  have e : V m c main_v9 = (truncf .bf16 (argWout m c : FVec Ideal S1024x1024 .f32) bitsLt_bf16_f32 : FVec Ideal S1024x1024 .bf16) := by
    show StableHlo.after hostOps0 _ (Proc.devRef .tc main_v9) = _
    after_results
  rw [e]
  rfl

end Cert.Attn
-- ==== Proof.Whole.lean ====
/-
  The kernel's result array, entry by entry: the grid point of batch `b` and of the 256 rows around `i` writes it from the blocks of that batch and those rows.
-/
module

public import proofs.«01_k».proof.Proof.HeadsRead
public import proofs.«01_k».proof.Proof.Prep

@[expose] public section

noncomputable section

namespace Cert.Attn

open Idealize.ShloMosaic Idealize.ShloMosaic.TcCoe Cert.KernelIdeal Cert.KernelIdeal.Gen Cert.KernelIdeal.Value Cert.Layer

variable (m : (ℓ : Loc nD τ sig) → Buf (Elt Ideal) ℓ) (c : Dev nD)

theorem index_0 : ∀ t : Fin cfg0.N, win0_0.index t = ![(grid0.coords t 0).val, (grid0.coords t 1).val, 0] :=
  (by decide +kernel : ∀ t : Fin grid0.N, _)
theorem index_1 : ∀ t : Fin cfg0.N, win0_1.index t = ![(grid0.coords t 0).val, 0, 0, 0] :=
  (by decide +kernel : ∀ t : Fin grid0.N, _)
theorem index_2 : ∀ t : Fin cfg0.N, win0_2.index t = ![(grid0.coords t 0).val, 0, 0, 0] :=
  (by decide +kernel : ∀ t : Fin grid0.N, _)
theorem index_3 : ∀ t : Fin cfg0.N, win0_3.index t = ![(grid0.coords t 0).val, (grid0.coords t 1).val, 0] :=
  (by decide +kernel : ∀ t : Fin grid0.N, _)
theorem index_4 : ∀ t : Fin cfg0.N, win0_4.index t = ![(grid0.coords t 0).val, (grid0.coords t 1).val, 0] :=
  (by decide +kernel : ∀ t : Fin grid0.N, _)
theorem index_5 : ∀ t : Fin cfg0.N, win0_5.index t = ![(grid0.coords t 0).val, (grid0.coords t 1).val, 0] :=
  (by decide +kernel : ∀ t : Fin grid0.N, _)
theorem index_6 : ∀ t : Fin cfg0.N, win0_6.index t = ![(grid0.coords t 0).val, (grid0.coords t 1).val, 0] :=
  (by decide +kernel : ∀ t : Fin grid0.N, _)
theorem index_7 : ∀ t : Fin cfg0.N, win0_7.index t = ![(grid0.coords t 0).val, 0, 2] :=
  (by decide +kernel : ∀ t : Fin grid0.N, _)
theorem index_8 : ∀ t : Fin cfg0.N, win0_8.index t = ![0, 0] :=
  (by decide +kernel : ∀ t : Fin grid0.N, _)
theorem index_9 : ∀ t : Fin cfg0.N, win0_9.index t = ![0, 0] :=
  (by decide +kernel : ∀ t : Fin grid0.N, _)
theorem index_10 : ∀ t : Fin cfg0.N, win0_10.index t = ![(grid0.coords t 0).val, (grid0.coords t 1).val, 0] :=
  (by decide +kernel : ∀ t : Fin grid0.N, _)

/-- The batch and the row of a block's row `r` at grid point `t`. -/
def batch (t : Fin cfg0.N) : Fin 8 := ⟨(grid0.coords t 0).val, (grid0.coords t 0).isLt⟩
def row (t : Fin cfg0.N) (r : Fin 256) : Fin 2048 := ⟨(grid0.coords t 1).val * 256 + r.val, by have := (grid0.coords t 1).isLt; have : (grid0.coords t 1).val < 8 := this; omega⟩

/-! ## The blocks at coordinates -/

theorem q_block (t : Fin cfg0.N) (r : Fin 256) (e : Fin 1024) :
    iblk m c 0 t (ix3 0 r e) = argQ m c (ix3 (batch t) (row t r) e) := by
  blk_simp [iblk, index_0]
  rw [V_main_arg0]
  refine congrArg _ ?_
  blk_ext [index_0, batch, row]

theorem k_block (t : Fin cfg0.N) (g : Fin 4) (l : Fin 128) (u : Fin 2304) :
    iblk m c 1 t (ix4 0 g l u) = V m c main_v10 (ix4 (batch t) g l u) := by
  blk_simp [iblk, index_1]
  refine congrArg _ ?_
  blk_ext [index_1, batch]

theorem v_block (t : Fin cfg0.N) (g : Fin 4) (u : Fin 2304) (l : Fin 128) :
    iblk m c 2 t (ix4 0 g u l) = V m c main_v11 (ix4 (batch t) g u l) := by
  blk_simp [iblk, index_2]
  refine congrArg _ ?_
  blk_ext [index_2, batch]

theorem sza_block (t : Fin cfg0.N) (r : Fin 256) (e : Fin 1024) :
    iblk m c 3 t (ix3 0 r e) = argSza m c (ix3 (batch t) (row t r) e) := by
  blk_simp [iblk, index_3]
  rw [V_main_arg5]
  refine congrArg _ ?_
  blk_ext [index_3, batch, row]

theorem g0_block (t : Fin cfg0.N) (r : Fin 256) (e : Fin 1024) :
    iblk m c 4 t (ix3 0 r e) = argG0 m c (ix3 (batch t) (row t r) e) := by
  blk_simp [iblk, index_4]
  rw [V_main_arg6]
  refine congrArg _ ?_
  blk_ext [index_4, batch, row]

theorem t1_block (t : Fin cfg0.N) (r : Fin 256) (e : Fin 1024) :
    iblk m c 5 t (ix3 0 r e) = argT1 m c (ix3 (batch t) (row t r) e) := by
  blk_simp [iblk, index_5]
  rw [V_main_arg7]
  refine congrArg _ ?_
  blk_ext [index_5, batch, row]

theorem x_block (t : Fin cfg0.N) (r : Fin 256) (e : Fin 1024) :
    iblk m c 6 t (ix3 0 r e) = argX m c (ix3 (batch t) (row t r) e) := by
  blk_simp [iblk, index_6]
  rw [V_main_arg8]
  refine congrArg _ ?_
  blk_ext [index_6, batch, row]

theorem mod_block (t : Fin cfg0.N) (n : Fin 1024) :
    iblk m c 7 t (ix3 0 0 n) = argMod m c (ix3 ⟨(batch t).val, by omega⟩ 0 ⟨2048 + n.val, by omega⟩) := by
  blk_simp [iblk, index_7]
  rw [V_main_arg9]
  refine congrArg _ ?_
  blk_ext [index_7, batch]

theorem wab_block (t : Fin cfg0.N) (a b : Fin 1024) : iblk m c 8 t (ix2 a b) = argWab m c (ix2 a b) := by
  blk_simp [iblk, index_8]
  rw [wab_prep]
  refine congrArg _ ?_
  blk_ext [index_8]

theorem wout_block (t : Fin cfg0.N) (a b : Fin 1024) : iblk m c 9 t (ix2 a b) = argWout m c (ix2 a b) := by
  blk_simp [iblk, index_9]
  rw [wout_prep]
  refine congrArg _ ?_
  blk_ext [index_9]

/-- The scratch at grid point `t`: the attention of the block's tokens, gated. -/
theorem scratch_read (t : Fin cfg0.N) (r : Fin 256) (e : Fin 1024) :
    heads (iblk m c 0 t) (iblk m c 1 t) (iblk m c 2 t) (iblk m c 3 t) (ix2 r e)
      = attQuot (argQ m c) (argKc m c) (argVc m c) (argKx m c) (argVx m c) (batch t) (row t r) e * argSza m c (ix3 (batch t) (row t r) e) := by
  have he := e.isLt
  rw [heads_read]
  refine congrArg₂ (· * ·) ?_ (sza_block m c t r e)
  unfold attQuot
  refine congrArg₂ Softmax.rowQuot (funext fun u => Finset.sum_congr rfl fun d _ => congrArg₂ (· * ·) (q_block m c t r _) ?_) (funext fun u => ?_)
  · refine (k_block m c t _ _ u).trans ((keys_prep m c _ _ _ u d (by simp only; omega)).trans ?_)
    exact congrArg (fun g => joined (argKc m c) (argKx m c) (batch t) g u d) (Fin.ext (by simp only; omega))
  · exact (v_block m c t _ u _).trans (vals_prep m c _ _ u _ ⟨e.val % 64, by omega⟩ (by simp only; omega))

/-- What the kernel leaves at a grid point, at an entry of the block. -/
theorem point_read (t : Fin cfg0.N) (r : Fin 256) (n : Fin 1024) :
    outsAt0 m c t (ix3 0 r n) = merged (attQuot (argQ m c) (argKc m c) (argVc m c) (argKx m c) (argVx m c)) (argSza m c) (argG0 m c) (argT1 m c) (argX m c) (argMod m c)
      (argWab m c) (argWout m c) (batch t) (row t r) n := by
  rw [outsAt_eq, tail_read]
  unfold merged
  refine congrArg₂ (· + ·) (x_block m c t r n) (congrArg₂ (· * ·) (mod_block m c t n) (Finset.sum_congr rfl fun e _ =>
    congrArg₂ (· * ·) (congrArg₂ (· + ·) (congrArg₂ (· * ·) (g0_block m c t r e) (Finset.sum_congr rfl fun d _ =>
      congrArg₂ (· * ·) (scratch_read m c t r d) (wab_block m c t d e))) (t1_block m c t r e)) (wout_block m c t e n)))

/-- The result array after the run. -/
theorem result_read : (dats m 0 c).arrAt 10 cfg0.N = fun i : S8x2048x1024.Idx =>
    merged (attQuot (argQ m c) (argKc m c) (argVc m c) (argKx m c) (argVx m c)) (argSza m c) (argG0 m c) (argT1 m c) (argX m c) (argMod m c)
      (argWab m c) (argWout m c) (i 0) (i 1) (i 2) := by
  refine (dats m 0 c).arrAt_eq_of_covers 10 _ (by decide +kernel) fun t hf y => ?_
  blk_simp
  rw [after0_10]
  obtain ⟨r, n, rfl⟩ : ∃ (r : Fin 256) (n : Fin 1024), y = ix3 0 r n := ⟨y 1, y 2, by
    funext a
    match a with
    | ⟨0, _⟩ => exact Fin.ext (by have : (y 0).val < 1 := (y 0).isLt; show (y 0).val = 0; omega)
    | ⟨1, _⟩ => rfl
    | ⟨2, _⟩ => rfl⟩
  refine (point_read m c t r n).trans ?_
  have e : (win0_10.blk t).view.emb (ix3 0 r n) = (ix3 (batch t) (row t r) n : S8x2048x1024.Idx) := by blk_ext [index_10, batch, row]
  rw [e]
  rfl

end Cert.Attn
-- ==== Proof.RefRead.lean ====
/-
  The reference's result read at an index: attention with the softmax divided first, then the merge.
-/
module

public import proofs.«01_k».proof.Proof.Gen.ReferenceIdeal.Read
public import proofs.«01_k».proof.Proof.Layer

@[expose] public section

noncomputable section

namespace Cert.AttnRef

open Idealize.ShloMosaic Cert.ReferenceIdeal Cert.ReferenceIdeal.Read Cert.Layer Cert.Softmax

variable (q : Arr3 8 2048 1024) (kc vc : Arr4 8 256 4 64) (kx vx : Arr4 8 2048 4 64) (sza g0 t1 x : Arr3 8 2048 1024) (mod : Arr3 16 1 3072) (wab wout : Arr2 1024 1024)

theorem score_read (b : Fin 8) (g h : Fin 4) (i : Fin 2048) (t : Fin 2304) :
    val_main_v16 (F := Ideal) q kc kx (ix5 b g h i t) = score q kc kx b i ⟨4 * g.val + h.val, by omega⟩ t := by
  unfold val_main_v16 val_main_v15 val_main_v14 val_main_v13 val_main_v11 val_main_v0 val_main_v1 val_main_v3
  pointwise
  unfold score joined
  refine Finset.sum_congr rfl fun d _ => ?_
  rw [mul_comm]
  congr 1
  · congr 2; apply Fin.ext; simp only; omega
  · have e : (⟨(4 * g.val + h.val) / 4, by omega⟩ : Fin 4) = g := Fin.ext (by simp only; omega)
    rw [e]

theorem neg_inf : Ideal.ofBits FTy.f32 0xFF800000#32 = ⊥ := by simp [Ideal.ofBits, Ideal.ieee]

/-- The maximum over the last axis of the scores' array. -/
theorem max_read (Y : FVec Ideal S8x4x4x2048x2304 .f32) (b : Fin 8) (g h : Fin 4) (i : Fin 2048) :
    Host.reduce FloatOps.maximumf Y (val_main_cst (F := Ideal)) Gen.reducesTo_S8x4x4x2048x2304_S8x4x4x2048_d4 Gen.h_S_ (ix4 b g h i)
      = top fun t : Fin 2304 => (Y (ix5 b g h i t) : EReal) := by
  unfold val_main_cst
  pointwise
  rw [neg_inf]
  unfold top
  with_reducible rfl

/-- The row maximum, which the softmax takes once more against minus infinity. -/
theorem top_read (b : Fin 8) (g h : Fin 4) (i : Fin 2048) (t : Fin 2304) :
    val_main_v21 (F := Ideal) q kc kx (ix5 b g h i t) = top (score q kc kx b i ⟨4 * g.val + h.val, by omega⟩) := by
  have e : val_main_v17 (F := Ideal) q kc kx (ix4 b g h i) = top (score q kc kx b i ⟨4 * g.val + h.val, by omega⟩) := by
    unfold val_main_v17
    rw [max_read]
    simp only [score_read]
  have e20 : idx_main_v20 (idx_main_v21 (ix5 b g h i t)) = ix4 b g h i := by
    funext k; fin_cases k <;> rfl
  rw [val_main_v21_apply, val_main_v20_apply, e20, val_main_v19_apply, e, val_main_v18_apply, val_main_cst_0_apply]
  show max (Ideal.ofBits FTy.f32 0xFF800000#32) _ = _
  rw [neg_inf, max_eq_right bot_le]

theorem weight_read (b : Fin 8) (g h : Fin 4) (i : Fin 2048) (t : Fin 2304) :
    val_main_v23 (F := Ideal) q kc kx (ix5 b g h i t) = weight (score q kc kx b i ⟨4 * g.val + h.val, by omega⟩) t := by
  show Ideal.exp (val_main_v16 (F := Ideal) q kc kx (ix5 b g h i t) - val_main_v21 (F := Ideal) q kc kx (ix5 b g h i t)) = _
  rw [score_read, top_read]
  unfold weight
  with_reducible rfl

theorem vals_read (b : Fin 8) (t : Fin 2304) (g : Fin 4) (d : Fin 64) : val_main_v12 (F := Ideal) vc vx (ix4 b t g d) = joined vc vx b g t d := by
  unfold val_main_v12 val_main_v2 val_main_v4 joined
  pointwise

theorem mix_read (b : Fin 8) (i : Fin 2048) (c : Fin 1024) :
    val_main_v30 (F := Ideal) q kc vc kx vx (ix3 b i c) = attMix q kc vc kx vx b i c := by
  unfold val_main_v30 val_main_v29 val_main_v28 val_main_v27 val_main_v26 val_main_v25 val_main_v24 val_main_cst_1
  pointwise
  simp only [weight_read, vals_read]
  have e : score q kc kx b i ⟨4 * (c.val / 256) + c.val / 64 % 4, by omega⟩ = score q kc kx b i ⟨c.val / 64, by omega⟩ :=
    congrArg (score q kc kx b i) (Fin.ext (by simp only; omega))
  simp only [e]
  unfold attMix rowMix laneVals
  with_reducible rfl

theorem result_read (b : Fin 8) (i : Fin 2048) (n : Fin 1024) :
    val_main_v38 (F := Ideal) q kc vc kx vx sza g0 t1 x mod wab wout (ix3 b i n) = merged (attMix q kc vc kx vx) sza g0 t1 x mod wab wout b i n := by
  unfold val_main_v38 val_main_v37 val_main_v36 val_main_v35 val_main_v34 val_main_v33 val_main_v32 val_main_v31 val_main_v5 val_main_v6 val_main_v10 val_main_v7
  pointwise
  simp only [mix_read]
  unfold merged
  with_reducible rfl

end Cert.AttnRef
-- ==== Proof.Finite.lean ====
/-
  The precondition read: no infinity among the queries and the keys.
-/
module

public import proofs.«01_k».proof.Pre_finite_scores
public import proofs.«01_k».proof.Proof.Softmax
public import Idealize.ShloMosaic.Lib.Pointwise

@[expose] public section

noncomputable section

namespace Cert.Finite

open Idealize.ShloMosaic Cert.Pre_finite_scores Cert.Softmax

theorem facts : Cert.Pre_finite_scores.Facts where
  bcast_S_S8x2048x1024 := by decide
  bcast_S_S8x256x4x64 := by decide
  bcast_S_S8x2048x4x64 := by decide

theorem pos_inf : Ideal.ofBits FTy.bf16 0x7F80#16 = ⊤ := by simp [Ideal.ofBits, Ideal.ieee]

/-- A comparison that came out 1 holds. -/
theorem real_of_cmp (x : EReal) (h : Ideal.cmp .olt (max x (-x)) (Ideal.ofBits FTy.bf16 0x7F80#16) = 1#1) : IsReal x := by
  rw [pos_inf] at h
  refine isReal_of_abs_lt ?_
  by_contra hn
  simp [Ideal.cmp, hn] at h

variable [Cert.Pre_finite_scores.Facts]
variable {q : FVec Ideal S8x2048x1024 .bf16} {kc vc : FVec Ideal S8x256x4x64 .bf16} {kx vx : FVec Ideal S8x2048x4x64 .bf16}
  {sza g0 : FVec Ideal S8x2048x1024 .bf16} {t1 x : FVec Ideal S8x2048x1024 .f32} {mod : FVec Ideal S16x1x3072 .f32} {wab wout : FVec Ideal S1024x1024 .f32}

theorem queries (h : (fn (F := Ideal) q kc vc kx vx sza g0 t1 x mod wab wout).1 = fun _ => 1#1) (i : S8x2048x1024.Idx) : IsReal (q i) :=
  real_of_cmp (q i) (congrFun h i)

theorem contextKeys (h : (fn (F := Ideal) q kc vc kx vx sza g0 t1 x mod wab wout).2.1 = fun _ => 1#1) (i : S8x256x4x64.Idx) : IsReal (kc i) :=
  real_of_cmp (kc i) (congrFun h i)

theorem latentKeys (h : (fn (F := Ideal) q kc vc kx vx sza g0 t1 x mod wab wout).2.2 = fun _ => 1#1) (i : S8x2048x4x64.Idx) : IsReal (kx i) :=
  real_of_cmp (kx i) (congrFun h i)

end Cert.Finite
-- ==== Proof.AttnEqual.lean ====
/-
  The attention programs side by side: with no infinity among the queries and the keys, the kernel's result array is the reference's.
-/
module

public import proofs.«01_k».proof.Defs
public import proofs.«01_k».proof.Proof.Whole
public import proofs.«01_k».proof.Proof.RefRead
public import proofs.«01_k».proof.Proof.Finite

@[expose] public section

noncomputable section

namespace Cert.AttnEqual

open Idealize.ShloMosaic Idealize.ShloMosaic.TcCoe Idealize.SL.Sem Cert.Layer

/-- The reference's result array after its run. -/
theorem ref_result (m : (ℓ : Loc Cert.ReferenceIdeal.nD Cert.ReferenceIdeal.τ Cert.ReferenceIdeal.sig) → Buf (Elt Ideal) ℓ) (c : Dev Cert.ReferenceIdeal.nD)
    (q : Arr3 8 2048 1024) (kc vc : Arr4 8 256 4 64) (kx vx : Arr4 8 2048 4 64) (sza g0 t1 x : Arr3 8 2048 1024) (mod : Arr3 16 1 3072) (wab wout : Arr2 1024 1024)
    (h0 : m ((c.tc : Thread Cert.ReferenceIdeal.nD Cert.ReferenceIdeal.τ).loc Cert.ReferenceIdeal.main_arg0) = q)
    (h1 : m ((c.tc : Thread Cert.ReferenceIdeal.nD Cert.ReferenceIdeal.τ).loc Cert.ReferenceIdeal.main_arg1) = kc)
    (h2 : m ((c.tc : Thread Cert.ReferenceIdeal.nD Cert.ReferenceIdeal.τ).loc Cert.ReferenceIdeal.main_arg2) = vc)
    (h3 : m ((c.tc : Thread Cert.ReferenceIdeal.nD Cert.ReferenceIdeal.τ).loc Cert.ReferenceIdeal.main_arg3) = kx)
    (h4 : m ((c.tc : Thread Cert.ReferenceIdeal.nD Cert.ReferenceIdeal.τ).loc Cert.ReferenceIdeal.main_arg4) = vx)
    (h5 : m ((c.tc : Thread Cert.ReferenceIdeal.nD Cert.ReferenceIdeal.τ).loc Cert.ReferenceIdeal.main_arg5) = sza)
    (h6 : m ((c.tc : Thread Cert.ReferenceIdeal.nD Cert.ReferenceIdeal.τ).loc Cert.ReferenceIdeal.main_arg6) = g0)
    (h7 : m ((c.tc : Thread Cert.ReferenceIdeal.nD Cert.ReferenceIdeal.τ).loc Cert.ReferenceIdeal.main_arg7) = t1)
    (h8 : m ((c.tc : Thread Cert.ReferenceIdeal.nD Cert.ReferenceIdeal.τ).loc Cert.ReferenceIdeal.main_arg8) = x)
    (h9 : m ((c.tc : Thread Cert.ReferenceIdeal.nD Cert.ReferenceIdeal.τ).loc Cert.ReferenceIdeal.main_arg9) = mod)
    (h10 : m ((c.tc : Thread Cert.ReferenceIdeal.nD Cert.ReferenceIdeal.τ).loc Cert.ReferenceIdeal.main_arg10) = wab)
    (h11 : m ((c.tc : Thread Cert.ReferenceIdeal.nD Cert.ReferenceIdeal.τ).loc Cert.ReferenceIdeal.main_arg11) = wout) :
    Cert.ReferenceIdeal.Value.res_main_v38 m c = fun i : Cert.ReferenceIdeal.S8x2048x1024.Idx =>
      merged (attMix q kc vc kx vx) sza g0 t1 x mod wab wout (i 0) (i 1) (i 2) := by
  rw [Cert.ReferenceIdeal.Read.val_main_v38_eq, h0, h1, h2, h3, h4, h5, h6, h7, h8, h9, h10, h11]
  funext i
  obtain ⟨a, b, n, rfl⟩ : ∃ (a : Fin 8) (b : Fin 2048) (n : Fin 1024), i = ix3 a b n := ⟨i 0, i 1, i 2, by
    funext k
    match k with
    | ⟨0, _⟩ => rfl
    | ⟨1, _⟩ => rfl
    | ⟨2, _⟩ => rfl⟩
  exact Cert.AttnRef.result_read q kc vc kx vx sza g0 t1 x mod wab wout a b n

theorem algebraic : Cert.algebraic_KernelIdeal_ReferenceIdeal_pre_finite_scores (hKernelIdeal := Cert.KernelIdeal.Gen.facts)
    (hReferenceIdeal := Cert.ReferenceIdeal.Gen.facts) (hPre_finite_scores := Cert.Finite.facts) := by
  intro m g m' g' hpre hag
  refine ⟨fun c => (Cert.KernelIdeal.Gen.dats m 0 c).arrAt 10 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨h0, h1, h2, h3, h4, h5, h6, h7, h8, h9, h10, h11⟩ := hag c
  refine (ref_result m' c _ _ _ _ _ _ _ _ _ _ _ _ h0 h1 h2 h3 h4 h5 h6 h7 h8 h9 h10 h11).trans (Eq.trans ?_ (Cert.Attn.result_read m c).symm)
  obtain ⟨p0, p1, p2⟩ := hpre c
  have e := attQuot_eq (q := Cert.Attn.argQ m c) (kc := Cert.Attn.argKc m c) (vc := Cert.Attn.argVc m c) (kx := Cert.Attn.argKx m c) (vx := Cert.Attn.argVx m c)
    (letI := Cert.Finite.facts; Cert.Finite.queries p0) (letI := Cert.Finite.facts; Cert.Finite.contextKeys p1) (letI := Cert.Finite.facts; Cert.Finite.latentKeys p2)
  exact congrArg (fun att => fun i : Cert.KernelIdeal.S8x2048x1024.Idx => merged att (Cert.Attn.argSza m c) (Cert.Attn.argG0 m c) (Cert.Attn.argT1 m c) (Cert.Attn.argX m c)
    (Cert.Attn.argMod m c) (Cert.Attn.argWab m c) (Cert.Attn.argWout m c) (i 0) (i 1) (i 2)) e.symm

end Cert.AttnEqual
-- ==== Proof.ProjLayer.lean ====
/-
  The projection half of the layer as formulas over the argument arrays' entries: the values both programs are read to.
  The head norm and the rotation come in two orders, which agree because the reciprocal root is a real number that is not negative.
-/
module

public import proofs.«01_k».proof.Proof.Layer
public import Idealize.ShloMosaic.Lib.Pointwise

@[expose] public section

noncomputable section

namespace Cert.ProjLayer

open Idealize.ShloMosaic Cert.Layer

/-- A row of extended reals. -/
abbrev Arr1 (a : ℕ) : Type := (⟨1, ![a]⟩ : Shape).Idx → EReal

/-- The constant added under the root, the number one, the two lengths that means divide by, and the scores' scale: the words the programs hold. -/
def eps : EReal := Ideal.ofBits FTy.f32 0x358637BD#32
def one : EReal := Ideal.ofBits FTy.f32 0x3F800000#32
def width : EReal := Ideal.ofBits FTy.f32 0x44800000#32
def dim : EReal := Ideal.ofBits FTy.f32 0x42800000#32
def scale : EReal := Ideal.ofBits FTy.f32 0x3E000000#32

theorem one_eq : one = 1 := by
  have e : one = ((8388608 * (2 ^ 23)⁻¹ : ℝ) : EReal) := by simp [one, Ideal.ofBits, Ideal.ieee]
  rw [e]; norm_num

theorem eps_pos : ∃ r : ℝ, 0 < r ∧ eps = (r : EReal) := by
  have e : eps = ((8796093 * (2 ^ 43)⁻¹ : ℝ) : EReal) := by simp [eps, Ideal.ofBits, Ideal.ieee]
  exact ⟨_, by positivity, e⟩

theorem dim_eq : dim = ((64 : ℝ) : EReal) := by
  have e : dim = ((8388608 * (2 ^ 17)⁻¹ : ℝ) : EReal) := by simp [dim, Ideal.ofBits, Ideal.ieee]
  rw [e]; norm_num

/-- A mean over a head's 64 lanes is the sum times the word for 1/64. -/
theorem div_dim (x : EReal) : Ideal.div x dim = x * Ideal.ofBits FTy.f32 0x3C800000#32 := by
  rw [dim_eq, Ideal.div_coe (by norm_num)]
  congr 1
  have e : Ideal.ofBits FTy.f32 0x3C800000#32 = ((8388608 * (2 ^ 29)⁻¹ : ℝ) : EReal) := by simp [Ideal.ofBits, Ideal.ieee]
  rw [e]; norm_num

/-- The reciprocal root of a mean square. -/
def rroot {n : ℕ} (v : Fin n → EReal) (N : EReal) : EReal := Ideal.rsqrt (Ideal.div (∑ e, v e * v e) N + eps)

theorem sq_nonneg' (x : EReal) : 0 ≤ x * x := by
  rcases le_total 0 x with h | h
  · exact mul_nonneg h h
  · have := mul_nonneg (EReal.neg_nonneg.mpr h) (EReal.neg_nonneg.mpr h)
    rwa [neg_mul, mul_neg, neg_neg] at this

theorem rroot_dim {n : ℕ} (v : Fin n → EReal) : 0 ≤ rroot v dim ∧ rroot v dim ≠ ⊤ := by
  unfold rroot
  rw [dim_eq, Ideal.div_coe (by norm_num)]
  have h0 : 0 ≤ (∑ e, v e * v e) * ((1 / 64 : ℝ) : EReal) :=
    mul_nonneg (Finset.sum_nonneg fun e _ => sq_nonneg' (v e)) (by exact_mod_cast (by norm_num : (0 : ℝ) ≤ 1 / 64))
  obtain ⟨p, hp, he⟩ := eps_pos
  rw [he]
  generalize (∑ e, v e * v e) * ((1 / 64 : ℝ) : EReal) = y at h0
  induction y with
  | bot => simp at h0
  | top => rw [EReal.top_add_of_ne_bot (EReal.coe_ne_bot p), Ideal.rsqrt_top]; simp
  | coe y =>
    have hy : 0 ≤ y := by exact_mod_cast h0
    rw [← EReal.coe_add, Ideal.rsqrt_coe, if_neg (by linarith), if_neg (by linarith)]
    exact ⟨by exact_mod_cast (by positivity), EReal.coe_ne_top _⟩

/-- One entry of the normed and modulated row. -/
def hidden (x : Arr3 8 2048 1024) (mod : Arr3 16 1 3072) (ng : Arr1 1024) (b : Fin 8) (i : Fin 2048) (e : Fin 1024) : EReal :=
  x (ix3 b i e) * rroot (fun k : Fin 1024 => x (ix3 b i k)) width * ng (ix1 e) * (one + mod (ix3 ⟨b.val, by omega⟩ 0 ⟨1024 + e.val, by omega⟩))
    + mod (ix3 ⟨b.val, by omega⟩ 0 ⟨e.val, by omega⟩)

/-- One entry of the projected row. -/
def projected (x : Arr3 8 2048 1024) (mod : Arr3 16 1 3072) (ng : Arr1 1024) (w : Arr2 1024 8704) (b : Fin 8) (i : Fin 2048) (n : Fin 8704) : EReal :=
  ∑ e : Fin 1024, hidden x mod ng b i e * w (ix2 e n)

/-- A head after its norm. -/
def normed (v g : Fin 64 → EReal) (d : Fin 64) : EReal := v d * rroot v dim * g d

/-- The rotation's partner: within each half of a head, the second quarter negated, then the first. -/
def turned (v : Fin 64 → EReal) (d : Fin 64) : EReal :=
  if d.val % 32 < 16 then -(v ⟨(d.val + 16) % 64, by omega⟩) else v ⟨(d.val + 48) % 64, by omega⟩

/-- A head after its norm and the rotation. -/
def rotated (v g c s : Fin 64 → EReal) (d : Fin 64) : EReal := normed v g d * c d + turned (normed v g) d * s d

/-- The kernel rotates first and multiplies by the reciprocal root after: the lanes it takes from the wrong side meet a zero. -/
theorem rotated_eq (v g c s : Fin 64 → EReal) (d : Fin 64) (up down : EReal)
    (hu : d.val % 32 < 16 → up = v ⟨(d.val + 16) % 64, by omega⟩ * g ⟨(d.val + 16) % 64, by omega⟩)
    (hd : ¬ d.val % 32 < 16 → down = v ⟨(d.val + 48) % 64, by omega⟩ * g ⟨(d.val + 48) % 64, by omega⟩) :
    (v d * g d * c d + up * (if d.val % 32 < 16 then -(s d) else 0) + down * (if d.val % 32 < 16 then 0 else s d)) * rroot v dim = rotated v g c s d := by
  obtain ⟨h0, ht⟩ := rroot_dim v
  unfold rotated turned normed
  generalize rroot v dim = r at h0 ht
  by_cases h : d.val % 32 < 16
  · rw [if_pos h, if_pos h, if_pos h, hu h, mul_zero, add_zero, EReal.right_distrib_of_nonneg_of_ne_top h0 ht]
    congr 1
    · rw [mul_assoc, mul_comm (c d), ← mul_assoc, mul_assoc (v d), mul_comm (g d), ← mul_assoc]
    · rw [mul_neg, neg_mul, neg_mul]
      congr 1
      rw [mul_assoc, mul_comm (s d), ← mul_assoc, mul_assoc (v _), mul_comm (g _), ← mul_assoc]
  · rw [if_neg h, if_neg h, if_neg h, hd h, mul_zero, add_zero, EReal.right_distrib_of_nonneg_of_ne_top h0 ht]
    congr 1
    · rw [mul_assoc, mul_comm (c d), ← mul_assoc, mul_assoc (v d), mul_comm (g d), ← mul_assoc]
    · rw [mul_assoc, mul_comm (s d), ← mul_assoc, mul_assoc (v _), mul_comm (g _), ← mul_assoc]

section results

variable (p : Fin 8 → Fin 2048 → Fin 8704 → EReal)

/-- Queries: lane `n` is dimension `n % 64` of head `n / 64`. -/
def queryOut (qg : Arr1 64) (c s : Arr2 2048 64) (b : Fin 8) (i : Fin 2048) (n : Fin 1024) : EReal :=
  rotated (fun d => p b i ⟨64 * (n.val / 64) + d.val, by omega⟩) (fun d => qg (ix1 d)) (fun d => c (ix2 i d)) (fun d => s (ix2 i d)) ⟨n.val % 64, by omega⟩ * scale

/-- Keys: lane `l` is dimension `l % 64` of group `g`. -/
def keyOut (kg : Arr1 64) (c s : Arr2 2048 64) (b : Fin 8) (g : Fin 4) (l : Fin 128) (i : Fin 2048) : EReal :=
  rotated (fun d => p b i ⟨1024 + 64 * g.val + d.val, by omega⟩) (fun d => kg (ix1 d)) (fun d => c (ix2 i d)) (fun d => s (ix2 i d)) ⟨l.val % 64, by omega⟩

/-- Values: lane `l` is dimension `l % 64` of group `g`. -/
def valueOut (b : Fin 8) (g : Fin 4) (i : Fin 2048) (l : Fin 128) : EReal := p b i ⟨1280 + 64 * g.val + l.val % 64, by omega⟩

def silu (y : EReal) : EReal := y * Ideal.logistic y

/-- The attention's output gate. -/
def outGate (b : Fin 8) (i : Fin 2048) (n : Fin 1024) : EReal := silu (p b i ⟨1536 + n.val, by omega⟩)

/-- What the convolution runs over. -/
def conved (b : Fin 8) (i : Fin 2048) (e : Fin 1024) : EReal := p b i ⟨4608 + e.val, by omega⟩ * p b i ⟨2560 + e.val, by omega⟩

/-- The row before, zero before the first; the row after, zero after the last. -/
def before (b : Fin 8) (i : Fin 2048) (e : Fin 1024) : EReal := if i.val = 0 then 0 else conved p b ⟨i.val - 1, by omega⟩ e
def behind (b : Fin 8) (i : Fin 2048) (e : Fin 1024) : EReal := if h : i.val = 2047 then 0 else conved p b ⟨i.val + 1, by omega⟩ e

/-- The gated convolution. -/
def branch (cw : Arr2 3 1024) (cb : Arr1 1024) (b : Fin 8) (i : Fin 2048) (e : Fin 1024) : EReal :=
  p b i ⟨3584 + e.val, by omega⟩ * (before p b i e * cw (ix2 0 e) + conved p b i e * cw (ix2 1 e) + behind p b i e * cw (ix2 2 e) + cb (ix1 e))
    * silu (p b i ⟨5632 + e.val, by omega⟩)

/-- The two merge gates. -/
def gate (bg : Arr2 2 1024) (k : Fin 2) (b : Fin 8) (i : Fin 2048) (n : Fin 1024) : EReal :=
  Ideal.logistic (p b i ⟨6656 + 1024 * k.val + n.val, by omega⟩ + bg (ix2 k n))

/-- The convolution branch, projected and gated. -/
def branchOut (cw : Arr2 3 1024) (cb : Arr1 1024) (wcb : Arr2 1024 1024) (bg : Arr2 2 1024) (b : Fin 8) (i : Fin 2048) (n : Fin 1024) : EReal :=
  gate p bg 1 b i n * ∑ e : Fin 1024, branch p cw cb b i e * wcb (ix2 e n)

end results

end Cert.ProjLayer
-- ==== Proof.ProjRead.lean ====
/-
  The projection kernel's stores read at an index, as formulas over whatever blocks they are given.
-/
module

public import proofs.«01_k».proof.Proof.Gen.ProjectionIdeal.Skeleton
public import proofs.«01_k».proof.Proof.ProjLayer

@[expose] public section

noncomputable section

namespace Cert.Proj

open Idealize.ShloMosaic Cert.ProjectionIdeal Cert.ProjectionIdeal.Gen Cert.Layer Cert.ProjLayer

/-- One entry of a tile of the product of the normed rows with 256 columns of the weights. -/
def tileDot {a : ℕ} (h : (⟨2, ![a, 1024]⟩ : Shape).Idx → EReal) (w : FVec Ideal S1024x256 .bf16) (r : Fin a) (n : Fin 256) : EReal :=
  ∑ e : Fin 1024, h (ix2 r e) * w (ix2 e n)

/-- One entry of a normed and modulated row. -/
def normedRow (v g sc sh : Fin 1024 → EReal) (e : Fin 1024) : EReal := v e * rroot v width * (g e * (one + sc e)) + sh e

theorem halo_before_read (g : FVec Ideal S1x1024 .f32) (sc sh : FVec Ideal S1x1x1024 .f32) (x : FVec Ideal S1x16x1024 .f32) (r : Fin 16) (e : Fin 1024) :
    k0_pay4 (F := Ideal) g sc sh x (ix2 r e) = normedRow (fun e => x (ix3 0 r e)) (fun e => g (ix2 0 e)) (fun e => sc (ix3 0 0 e)) (fun e => sh (ix3 0 0 e)) e := by
  unfold k0_pay4 k0_pay2 k0_pay3
  pointwise
  unfold normedRow rroot width eps
  rw [one_eq]

theorem halo_behind_read (g : FVec Ideal S1x1024 .f32) (sc sh : FVec Ideal S1x1x1024 .f32) (x : FVec Ideal S1x16x1024 .f32) (r : Fin 16) (e : Fin 1024) :
    k0_pay8 (F := Ideal) (k0_pay2 (F := Ideal) g sc) (k0_pay3 (F := Ideal) sh) x (ix2 r e)
      = normedRow (fun e => x (ix3 0 r e)) (fun e => g (ix2 0 e)) (fun e => sc (ix3 0 0 e)) (fun e => sh (ix3 0 0 e)) e := by
  unfold k0_pay8 k0_pay2 k0_pay3
  pointwise
  unfold normedRow rroot width eps
  rw [one_eq]

theorem rows_read (g : FVec Ideal S1x1024 .f32) (sc sh : FVec Ideal S1x1x1024 .f32) (x : FVec Ideal S1x256x1024 .f32) (r : Fin 256) (e : Fin 1024) :
    k0_pay7 (F := Ideal) (k0_pay2 (F := Ideal) g sc) (k0_pay3 (F := Ideal) sh) (k0_pay5 (F := Ideal) x) (k0_pay6 (F := Ideal) x) (ix2 r e)
      = normedRow (fun e => x (ix3 0 r e)) (fun e => g (ix2 0 e)) (fun e => sc (ix3 0 0 e)) (fun e => sh (ix3 0 0 e)) e := by
  unfold k0_pay7 k0_pay6 k0_pay5 k0_pay2 k0_pay3
  pointwise
  unfold normedRow rroot width eps
  rw [one_eq]

theorem silu_read (h : FVec Ideal S256x1024 .bf16) (w : FVec Ideal S1024x256 .bf16) (r n : Fin 256) : k0_pay35 (F := Ideal) h w (ix3 0 r n) = silu (tileDot h w r n) := by
  unfold k0_pay35
  pointwise
  unfold silu tileDot
  with_reducible rfl

theorem gate_read (h : FVec Ideal S256x1024 .bf16) (w : FVec Ideal S1024x256 .bf16) (b : FVec Ideal S1x256 .f32) (r n : Fin 256) :
    k0_pay78 (F := Ideal) h w b (ix3 0 r n) = Ideal.logistic (tileDot h w r n + b (ix2 0 n)) := by
  unfold k0_pay78
  pointwise
  unfold tileDot
  with_reducible rfl

theorem branch_read (h y : FVec Ideal S256x1024 .bf16) (w : FVec Ideal S1024x256 .bf16) (b : FVec Ideal S1x256 .f32) (wc : FVec Ideal S1024x256 .bf16) (r n : Fin 256) :
    k0_pay82 (F := Ideal) h y w b wc (ix3 0 r n) = Ideal.logistic (tileDot h w r n + b (ix2 0 n)) * tileDot y wc r n := by
  unfold k0_pay82
  pointwise
  unfold tileDot
  with_reducible rfl

theorem conved_read (h : FVec Ideal S288x1024 .bf16) (w w' : FVec Ideal S1024x256 .bf16) (r : Fin 288) (n : Fin 256) :
    k0_pay63 (F := Ideal) h w w' (ix2 r n) = tileDot h w r n * tileDot h w' r n := by
  unfold k0_pay63
  pointwise
  unfold tileDot
  with_reducible rfl

theorem value_read (h : FVec Ideal S256x1024 .bf16) (w : FVec Ideal S1024x256 .bf16) (r n : Fin 256) : k0_pay11 (F := Ideal) h w (ix2 r n) = tileDot h w r n := by
  unfold k0_pay11
  pointwise
  unfold tileDot
  with_reducible rfl

theorem select_if {α : Type} (m : BitVec 1) (a b : α) : Scalar.select m a b = if m = 1#1 then a else b := rfl

/-- The gated convolution's entry: the rows before and behind are zero where the masks hold. -/
theorem gated_read (h : FVec Ideal S256x1024 .bf16) (m₀ m₁ : IVec S256x256 1) (p q u : FVec Ideal S256x256 .f32) (c₀ c₁ c₂ : FVec Ideal S1x256 .f32) (cb : FVec Ideal S1x256 .f32)
    (w w' : FVec Ideal S1024x256 .bf16) (r n : Fin 256) :
    k0_pay73 (F := Ideal) h m₀ m₁ p (Scalar.ofBits .f32 0x00000000#32) q c₀ u c₁ c₂ cb w w' (ix2 r n)
      = tileDot h w r n * ((if m₀ (ix2 r n) = 1#1 then 0 else p (ix2 r n) * c₀ (ix2 0 n)) + u (ix2 r n) * c₁ (ix2 0 n)
        + (if m₁ (ix2 r n) = 1#1 then 0 else q (ix2 r n) * c₂ (ix2 0 n)) + cb (ix2 0 n)) * silu (tileDot h w' r n) := by
  unfold k0_pay73
  pointwise
  rw [select_if, select_if]
  unfold silu tileDot
  with_reducible rfl

/-- Two heads rotated, as the kernel orders it: the lanes as they are, those sixteen above and those sixteen below, each times a table. -/
def halfTurn (x c lo hi : FVec Ideal S256x128 .f32) : FVec Ideal S256x128 .f32 :=
  addf (addf (mulf x (shapeCast S256x128 c shapeCasts_S256x128_S256x128))
    (mulf (dynamicRotate 1 112#32 none x rotates_S256x128_d1) (shapeCast S256x128 lo shapeCasts_S256x128_S256x128)))
    (mulf (dynamicRotate 1 16#32 none x rotates_S256x128_d1) (shapeCast S256x128 hi shapeCasts_S256x128_S256x128))

theorem halfTurn_read (x c lo hi : FVec Ideal S256x128 .f32) (r : Fin 256) (l : Fin 128) :
    halfTurn x c lo hi (ix2 r l) = x (ix2 r l) * c (ix2 r l) + x (ix2 r ⟨(l.val + 16) % 128, by omega⟩) * lo (ix2 r l) + x (ix2 r ⟨(l.val + 112) % 128, by omega⟩) * hi (ix2 r l) := by
  unfold halfTurn
  pointwise
  have e1 : (⟨(l.val + 16) % 128, by omega⟩ : Fin 128) = ⟨(l.val + 128 - 112) % 128, by omega⟩ := Fin.ext (by simp only; omega)
  have e2 : (⟨(l.val + 112) % 128, by omega⟩ : Fin 128) = ⟨(l.val + 128 - 16) % 128, by omega⟩ := Fin.ext (by simp only; omega)
  rw [e1, e2]

/-- The gained tile. -/
def gained (a : FVec Ideal S256x256 .f32) (g : FVec Ideal S1x256 .f32) : FVec Ideal S256x256 .f32 :=
  mulf a (broadcastTo S256x256 (shapeCast S1x256 g shapeCasts_S1x256_S1x256) broadcasts_S1x256_S256x256)

theorem gained_read (a : FVec Ideal S256x256 .f32) (g : FVec Ideal S1x256 .f32) (r n : Fin 256) : gained a g (ix2 r n) = a (ix2 r n) * g (ix2 0 n) := by
  unfold gained
  pointwise

/-- The gained and rotated tile before the norm's root: two heads in each half of the lanes. -/
def turnTile (a : FVec Ideal S256x256 .f32) (g : FVec Ideal S1x256 .f32) (c lo hi : FVec Ideal S256x128 .f32) : FVec Ideal S256x256 .f32 :=
  concatenate S256x256 1 [⟨S256x128, halfTurn (extractStridedSlice S256x128 ![0, 0] (gained a g) slices_S256x256_o0_0_S256x128) c lo hi⟩,
    ⟨S256x128, halfTurn (extractStridedSlice S256x128 ![0, 128] (gained a g) slices_S256x256_o0_128_S256x128) c lo hi⟩] concatenates_S256x128_S256x128_S256x256_d1

/-- The reciprocal roots of the heads' mean squares. -/
def rootTile (a : FVec Ideal S256x256 .f32) (o : FVec Ideal S256x256 .bf16) : FVec Ideal S256x256 .f32 :=
  rsqrt (addf (mulf (matmul dot_S256x256_S256x256_S256x256_1_0_0_1_n_n none (truncf .bf16 (mulf a a) bitsLt_bf16_f32) o
    (constant S256x256 .f32 0x00000000#32)) (broadcast S256x256 (Scalar.ofBits .f32 0x3C800000#32))) (broadcast S256x256 (Scalar.ofBits .f32 0x358637BD#32)))

/-- A lane of two heads after the rotation, as the kernel orders it. -/
def spun (u : Fin 256 → EReal) (c lo hi : Fin 128 → EReal) (n : Fin 256) : EReal :=
  u n * c ⟨n.val % 128, by omega⟩ + u ⟨128 * (n.val / 128) + (n.val + 16) % 128, by omega⟩ * lo ⟨n.val % 128, by omega⟩
    + u ⟨128 * (n.val / 128) + (n.val + 112) % 128, by omega⟩ * hi ⟨n.val % 128, by omega⟩

theorem turnTile_read (a : FVec Ideal S256x256 .f32) (g : FVec Ideal S1x256 .f32) (c lo hi : FVec Ideal S256x128 .f32) (r n : Fin 256) :
    turnTile a g c lo hi (ix2 r n) = spun (fun n => a (ix2 r n) * g (ix2 0 n)) (fun l => c (ix2 r l)) (fun l => lo (ix2 r l)) (fun l => hi (ix2 r l)) n := by
  have hn := n.isLt
  have hu : (fun n => a (ix2 r n) * g (ix2 0 n)) = fun n => gained a g (ix2 r n) := funext fun n => (gained_read a g r n).symm
  rw [hu]
  unfold turnTile
  generalize gained a g = u
  have low (l : Fin 128) : extractStridedSlice S256x128 ![0, 0] u slices_S256x256_o0_0_S256x128 (ix2 r l) = u (ix2 r ⟨l.val, by omega⟩) := by
    pointwise
  have high (l : Fin 128) : extractStridedSlice S256x128 ![0, 128] u slices_S256x256_o0_128_S256x128 (ix2 r l) = u (ix2 r ⟨128 + l.val, by omega⟩) := by
    pointwise
  generalize extractStridedSlice S256x128 ![0, 0] u slices_S256x256_o0_0_S256x128 = u₀ at low
  generalize extractStridedSlice S256x128 ![0, 128] u slices_S256x256_o0_128_S256x128 = u₁ at high
  pointwise
  unfold spun
  by_cases h : n.val < 128
  · refine (dif_pos h).trans ((halfTurn_read u₀ c lo hi r _).trans ?_)
    rw [low, low, low]
    congr 3 <;> first | exact Fin.ext (by simp only; omega) | (congr 1; first | exact Fin.ext (by simp only; omega) | (congr 1; exact Fin.ext (by simp only; omega)))
  · refine (dif_neg h).trans ((halfTurn_read u₁ c lo hi r _).trans ?_)
    rw [high, high, high]
    congr 3 <;> first | exact Fin.ext (by simp only; omega) | (congr 1; first | exact Fin.ext (by simp only; omega) | (congr 1; exact Fin.ext (by simp only; omega)))

theorem rootTile_read (a : FVec Ideal S256x256 .f32) (o : FVec Ideal S256x256 .bf16) (r n : Fin 256) :
    rootTile a o (ix2 r n) = Ideal.rsqrt ((∑ k : Fin 256, a (ix2 r k) * a (ix2 r k) * o (ix2 k n)) * Ideal.ofBits FTy.f32 0x3C800000#32 + eps) := by
  unfold rootTile
  pointwise
  unfold eps
  with_reducible rfl

theorem query_read (a : FVec Ideal S256x256 .f32) (g : FVec Ideal S1x256 .f32) (o : FVec Ideal S256x256 .bf16) (c lo hi : FVec Ideal S256x128 .f32) (r n : Fin 256) :
    k0_pay34 (F := Ideal) (k0_pay33 (F := Ideal) a g o c lo hi) (ix3 0 r n) = turnTile a g c lo hi (ix2 r n) * (rootTile a o (ix2 r n) * scale) := by
  have e : k0_pay33 (F := Ideal) a g o c lo hi
      = truncf .bf16 (mulf (turnTile a g c lo hi) (mulf (rootTile a o) (broadcast S256x256 (Scalar.ofBits .f32 0x3E000000#32)))) bitsLt_bf16_f32 := rfl
  rw [e]
  generalize turnTile a g c lo hi = x
  generalize rootTile a o = y
  unfold k0_pay34
  pointwise
  unfold scale
  with_reducible rfl

theorem key_read (h : FVec Ideal S256x1024 .bf16) (w : FVec Ideal S1024x256 .bf16) (g : FVec Ideal S1x256 .f32) (o : FVec Ideal S256x256 .bf16) (c lo hi : FVec Ideal S256x128 .f32)
    (r n : Fin 256) :
    k0_pay10 (F := Ideal) h (k0_pay9 (F := Ideal) w) g o c lo hi (ix2 r n)
      = turnTile (k0_pay11 (F := Ideal) h w) g c lo hi (ix2 r n) * rootTile (k0_pay11 (F := Ideal) h w) o (ix2 r n) := rfl

theorem low_bit : ∀ l : Fin 128, IntOp.cmpi .slt (BitVec.ofNat 32 l.val) 64#32 = if l.val < 64 then 1#1 else 0#1 := by decide +kernel

theorem keys_even (x : FVec Ideal S256x256 .f32) (l : Fin 128) (i : Fin 256) : k0_pay15 (F := Ideal) (extractStridedSlice S256x128 ![0, 0] x slices_S256x256_o0_0_S256x128) (ix4 0 0 l i) = x (ix2 i ⟨l.val % 64, by omega⟩) := by
  have hl := l.isLt
  unfold k0_pay15 k0_pay14 k0_pay13
  pointwise
  rw [low_bit, select_if]
  by_cases h : l.val < 64
  · rw [if_pos h, if_pos rfl]; exact congrArg (fun z => x (ix2 i z)) (Fin.ext (by simp only; omega))
  · rw [if_neg h, if_neg (by decide)]; exact congrArg (fun z => x (ix2 i z)) (Fin.ext (by simp only; omega))

theorem keys_odd (x : FVec Ideal S256x256 .f32) (l : Fin 128) (i : Fin 256) : k0_pay16 (F := Ideal) (extractStridedSlice S256x128 ![0, 0] x slices_S256x256_o0_0_S256x128) (ix4 0 0 l i) = x (ix2 i ⟨64 + l.val % 64, by omega⟩) := by
  have hl := l.isLt
  unfold k0_pay16 k0_pay14 k0_pay13
  pointwise
  rw [low_bit, select_if]
  by_cases h : l.val < 64
  · rw [if_pos h, if_pos rfl]; exact congrArg (fun z => x (ix2 i z)) (Fin.ext (by simp only; omega))
  · rw [if_neg h, if_neg (by decide)]; exact congrArg (fun z => x (ix2 i z)) (Fin.ext (by simp only; omega))

theorem keys_even' (x : FVec Ideal S256x256 .f32) (l : Fin 128) (i : Fin 256) :
    k0_pay25 (F := Ideal) (k0_pay22 x) (k0_pay23 x) (iota .tc S256x128 32 [1] iota_S256x128_d1_w32) 64#32 (ix4 0 0 l i) = x (ix2 i ⟨128 + l.val % 64, by omega⟩) := by
  have hl := l.isLt
  unfold k0_pay25 k0_pay24 k0_pay23 k0_pay22
  pointwise
  rw [low_bit, select_if]
  by_cases h : l.val < 64
  · rw [if_pos h, if_pos rfl]; exact congrArg (fun z => x (ix2 i z)) (Fin.ext (by simp only; omega))
  · rw [if_neg h, if_neg (by decide)]; exact congrArg (fun z => x (ix2 i z)) (Fin.ext (by simp only; omega))

theorem keys_odd' (x : FVec Ideal S256x256 .f32) (l : Fin 128) (i : Fin 256) :
    k0_pay26 (F := Ideal) (k0_pay22 x) (k0_pay23 x) (iota .tc S256x128 32 [1] iota_S256x128_d1_w32) 64#32 (ix4 0 0 l i) = x (ix2 i ⟨192 + l.val % 64, by omega⟩) := by
  have hl := l.isLt
  unfold k0_pay26 k0_pay24 k0_pay23 k0_pay22
  pointwise
  rw [low_bit, select_if]
  by_cases h : l.val < 64
  · rw [if_pos h, if_pos rfl]; exact congrArg (fun z => x (ix2 i z)) (Fin.ext (by simp only; omega))
  · rw [if_neg h, if_neg (by decide)]; exact congrArg (fun z => x (ix2 i z)) (Fin.ext (by simp only; omega))

theorem values_0 (x : FVec Ideal S256x256 .f32) (l : Fin 128) (i : Fin 256) : k0_pay20 (F := Ideal) x (ix4 0 0 i l) = x (ix2 i ⟨l.val % 64, by omega⟩) := by
  have hl := l.isLt
  unfold k0_pay20 k0_pay19 k0_pay18 k0_pay17
  pointwise
  rw [low_bit, select_if]
  by_cases h : l.val < 64
  · rw [if_pos h, if_pos rfl]; exact congrArg (fun z => x (ix2 i z)) (Fin.ext (by simp only; omega))
  · rw [if_neg h, if_neg (by decide)]; exact congrArg (fun z => x (ix2 i z)) (Fin.ext (by simp only; omega))

theorem values_1 (x : FVec Ideal S256x256 .f32) (l : Fin 128) (i : Fin 256) : k0_pay21 (F := Ideal) x (ix4 0 0 i l) = x (ix2 i ⟨64 + l.val % 64, by omega⟩) := by
  have hl := l.isLt
  unfold k0_pay21 k0_pay19 k0_pay18 k0_pay17
  pointwise
  rw [low_bit, select_if]
  by_cases h : l.val < 64
  · rw [if_pos h, if_pos rfl]; exact congrArg (fun z => x (ix2 i z)) (Fin.ext (by simp only; omega))
  · rw [if_neg h, if_neg (by decide)]; exact congrArg (fun z => x (ix2 i z)) (Fin.ext (by simp only; omega))

theorem values_2 (x : FVec Ideal S256x256 .f32) (l : Fin 128) (i : Fin 256) : k0_pay30 (F := Ideal) x (ix4 0 0 i l) = x (ix2 i ⟨128 + l.val % 64, by omega⟩) := by
  have hl := l.isLt
  unfold k0_pay30 k0_pay29 k0_pay28 k0_pay27
  pointwise
  rw [low_bit, select_if]
  by_cases h : l.val < 64
  · rw [if_pos h, if_pos rfl]; exact congrArg (fun z => x (ix2 i z)) (Fin.ext (by simp only; omega))
  · rw [if_neg h, if_neg (by decide)]; exact congrArg (fun z => x (ix2 i z)) (Fin.ext (by simp only; omega))

theorem values_3 (x : FVec Ideal S256x256 .f32) (l : Fin 128) (i : Fin 256) : k0_pay31 (F := Ideal) x (ix4 0 0 i l) = x (ix2 i ⟨192 + l.val % 64, by omega⟩) := by
  have hl := l.isLt
  unfold k0_pay31 k0_pay29 k0_pay28 k0_pay27
  pointwise
  rw [low_bit, select_if]
  by_cases h : l.val < 64
  · rw [if_pos h, if_pos rfl]; exact congrArg (fun z => x (ix2 i z)) (Fin.ext (by simp only; omega))
  · rw [if_neg h, if_neg (by decide)]; exact congrArg (fun z => x (ix2 i z)) (Fin.ext (by simp only; omega))

/-- The rows with no row before: the first of the first block; and the rows with none behind: the last of the last block. -/
theorem first_read (t : Fin 8) (r n : Fin 256) : (k0_pay61 (BitVec.ofNat 32 t.val) (ix2 r n) = 1#1) = (r.val = 0 ∧ t.val = 0) := by
  have h : ∀ (t : Fin 8) (r : Fin 256), (IntOp.andi (IntOp.cmpi .eq (BitVec.ofNat 32 r.val) 0#32) (IntOp.cmpi .eq (BitVec.ofNat 32 t.val) 0#32) = 1#1) ↔ (r.val = 0 ∧ t.val = 0) := by
    decide +kernel
  refine (congrArg (· = 1#1) ?_).trans (propext (h t r))
  unfold k0_pay61
  pointwise
  rfl

theorem last_read (t : Fin 8) (r n : Fin 256) :
    (k0_pay62 (BitVec.ofNat 32 t.val) (ix2 r n) = 1#1) = (r.val = 255 ∧ t.val = 7) := by
  have h : ∀ (t : Fin 8) (r : Fin 256), (IntOp.andi (IntOp.cmpi .eq (BitVec.ofNat 32 r.val) 255#32) (IntOp.cmpi .eq (BitVec.ofNat 32 t.val) 7#32) = 1#1) ↔ (r.val = 255 ∧ t.val = 7) := by
    decide +kernel
  refine (congrArg (· = 1#1) ?_).trans (propext (h t r))
  unfold k0_pay62
  pointwise
  rfl

end Cert.Proj
-- ==== Proof.ProjBody.lean ====
/-
  What the projection kernel leaves at one grid point, as formulas over its blocks.
  The kernel first keeps the 256 normed rows of the block with the sixteen before and the sixteen behind them, then takes the columns of the
  weights 256 at a time; four such tiles lie side by side in every output 1024 lanes wide.
-/
module

public import proofs.«01_k».proof.Proof.ProjRead
public import Idealize.ShloMosaic.Lib.Pipeline.ReadBack
public import Idealize.ShloMosaic.Lib.Pipeline.ValueKit

@[expose] public section

noncomputable section

namespace Cert.Proj

open Idealize.ShloMosaic Cert.ProjectionIdeal Cert.ProjectionIdeal.Gen Cert.Layer Cert.ProjLayer

/-! ## Reads of parts of an array -/

/-- A load of a part reads the whole at the part's offset. -/
theorem ld2 {A B a b : ℕ} {e : EltTy} (x : Vec Ideal (⟨2, ![A, B]⟩ : Shape) e) (o p : ℕ)
    (inb : ∀ k, (![o, p] : Fin 2 → ℕ) k + (![a, b] : Fin 2 → ℕ) k ≤ (⟨2, ![A, B]⟩ : Shape).size k) (r : Fin a) (n : Fin b) (hr : o + r.val < A) (hn : p + n.val < B) :
    View.ld x (Rect.unit (s := ⟨2, ![A, B]⟩) ![o, p] ![a, b] inb) (ix2 r n) = x (ix2 ⟨o + r.val, hr⟩ ⟨p + n.val, hn⟩) := by
  show x ((Rect.unit (s := ⟨2, ![A, B]⟩) ![o, p] ![a, b] inb).emb (ix2 r n)) = _
  refine congrArg x (funext fun k => Fin.ext ?_)
  rw [ValueKit.rect_emb_unit_val]
  match k with
  | ⟨0, _⟩ => rfl
  | ⟨1, _⟩ => rfl

/-- One entry of the product of the rows `h` with all the columns of the weights. -/
def wide {a : ℕ} (h : (⟨2, ![a, 1024]⟩ : Shape).Idx → EReal) (w : FVec Ideal S1024x8704 .bf16) (r : Fin a) (n : Fin 8704) : EReal :=
  ∑ e : Fin 1024, h (ix2 r e) * w (ix2 e n)

theorem weights_inb (o : ℕ) (ho : o + 256 ≤ 8704) : ∀ a, (![0, o] : Fin S1024x8704.rank → ℕ) a + S1024x256.size a ≤ S1024x8704.size a := by
  intro a
  match a with
  | ⟨0, _⟩ => exact Nat.le_refl 1024
  | ⟨1, _⟩ => exact ho

/-- The 256 columns of the weights from column `o`. -/
abbrev cols (w : FVec Ideal S1024x8704 .bf16) (o : ℕ) (ho : o + 256 ≤ 8704) : FVec Ideal S1024x256 .bf16 :=
  View.ld (Val := Elt Ideal) (e' := .bf16) w (Rect.unit (s := S1024x8704) ![0, o] S1024x256.size (weights_inb o ho))

theorem tileDot_cols {a : ℕ} (h : (⟨2, ![a, 1024]⟩ : Shape).Idx → EReal) (w : FVec Ideal S1024x8704 .bf16) (o : ℕ) (ho : o + 256 ≤ 8704) (r : Fin a) (n : Fin 256) :
    tileDot h (cols w o ho) r n = wide h w r ⟨o + n.val, by omega⟩ := by
  unfold tileDot wide
  refine Finset.sum_congr rfl fun e _ => congrArg (h (ix2 r e) * ·) ?_
  refine (ld2 (e := .bf16) w 0 o (weights_inb o ho) e n (by omega) (by omega)).trans (congrArg (fun z => w (ix2 z _)) (Fin.ext (Nat.zero_add _)))

/-! ## The normed rows -/

variable (x0 : FVec Ideal S1x256x1024 .f32) (x1 x2 : FVec Ideal S1x16x1024 .f32) (x3 x4 : FVec Ideal S1x1x1024 .f32) (x5 : FVec Ideal S1x1024 .f32)

/-- Row `r` of the 288: sixteen rows before the block, the block's 256, sixteen behind. -/
def source (r : Fin 288) (e : Fin 1024) : EReal :=
  if h : r.val < 16 then x1 (ix3 0 ⟨r.val, h⟩ e)
  else if h' : r.val < 272 then x0 (ix3 0 ⟨r.val - 16, by omega⟩ e)
  else x2 (ix3 0 ⟨r.val - 272, by omega⟩ e)

/-- The 288 normed rows the kernel keeps. -/
def ext : FVec Ideal S288x1024 .bf16 := fun y =>
  normedRow (source x0 x1 x2 (y 0)) (fun e => x5 (ix2 0 e)) (fun e => x4 (ix3 0 0 e)) (fun e => x3 (ix3 0 0 e)) (y 1)

/-- The block's own 256 normed rows. -/
def mid : FVec Ideal S256x1024 .bf16 := fun y =>
  normedRow (fun e => x0 (ix3 0 (y 0) e)) (fun e => x5 (ix2 0 e)) (fun e => x4 (ix3 0 0 e)) (fun e => x3 (ix3 0 0 e)) (y 1)

/-- The three stores that fill the kept rows, the latest first. -/
abbrev rowStores : List (View.Piece (Elt Ideal) S288x1024 .bf16) :=
  [⟨Rect.unit (s := S288x1024) ![272, 0] ![16, 1024] inb_S288x1024_S16x1024_272_0, k0_pay8 (F := Ideal) (k0_pay2 (F := Ideal) x5 x4) (k0_pay3 (F := Ideal) x3) x2⟩,
   ⟨Rect.unit (s := S288x1024) ![16, 0] ![256, 1024] inb_S288x1024_S256x1024_16_0,
      k0_pay7 (F := Ideal) (k0_pay2 (F := Ideal) x5 x4) (k0_pay3 (F := Ideal) x3) (k0_pay5 (F := Ideal) x0) (k0_pay6 (F := Ideal) x0)⟩,
   ⟨Rect.unit (s := S288x1024) ![0, 0] ![16, 1024] inb_S288x1024_S16x1024_0_0, k0_pay4 (F := Ideal) x5 x4 x3 x1⟩]

theorem emb2 {A B a b o p : ℕ} (inb : ∀ k, (![o, p] : Fin 2 → ℕ) k + (![a, b] : Fin 2 → ℕ) k ≤ (⟨2, ![A, B]⟩ : Shape).size k) (r : Fin a) (n : Fin b)
    (hr : o + r.val < A) (hn : p + n.val < B) :
    (Rect.unit (s := ⟨2, ![A, B]⟩) ![o, p] ![a, b] inb).emb (ix2 r n) = ix2 ⟨o + r.val, hr⟩ ⟨p + n.val, hn⟩ := by
  refine funext fun k => Fin.ext ?_
  rw [ValueKit.rect_emb_unit_val]
  match k with
  | ⟨0, _⟩ => rfl
  | ⟨1, _⟩ => rfl

theorem rows_kept : View.canon (Val := Elt Ideal) (rowStores x0 x1 x2 x3 x4 x5) = ext x0 x1 x2 x3 x4 x5 := by
  funext y
  have hr : (y 0).val < 288 := (y 0).isLt
  have he : (y 1).val < 1024 := (y 1).isLt
  refine View.canon_apply_of_pieces (S := S288x1024) _ _ ?_ _ ?_
  · simp only [List.forall_mem_cons, List.not_mem_nil, false_imp_iff, implies_true, and_true]
    refine ⟨fun x => ?_, fun x => ?_, fun x => ?_⟩
    · obtain ⟨r, e, rfl⟩ : ∃ (r : Fin 16) (e : Fin 1024), x = ix2 r e := ⟨x 0, x 1, eq_ix2 x⟩
      refine (halo_behind_read x5 x4 x3 x2 r e).trans ?_
      rw [emb2 inb_S288x1024_S16x1024_272_0 r e (by omega) (by omega)]
      show _ = normedRow (source x0 x1 x2 ⟨272 + r.val, _⟩) _ _ _ ⟨0 + e.val, _⟩
      have h1 : source x0 x1 x2 ⟨272 + r.val, by omega⟩ = fun e => x2 (ix3 0 r e) := funext fun e => by
        unfold source
        rw [dif_neg (by simp only; omega), dif_neg (by simp only; omega)]
        exact congrArg (fun z => x2 (ix3 0 z e)) (Fin.ext (by simp only; omega))
      rw [h1]
      exact congrArg (normedRow _ _ _ _) (Fin.ext (Nat.zero_add _).symm)
    · obtain ⟨r, e, rfl⟩ : ∃ (r : Fin 256) (e : Fin 1024), x = ix2 r e := ⟨x 0, x 1, eq_ix2 x⟩
      refine (rows_read x5 x4 x3 x0 r e).trans ?_
      rw [emb2 inb_S288x1024_S256x1024_16_0 r e (by omega) (by omega)]
      show _ = normedRow (source x0 x1 x2 ⟨16 + r.val, _⟩) _ _ _ ⟨0 + e.val, _⟩
      have h1 : source x0 x1 x2 ⟨16 + r.val, by omega⟩ = fun e => x0 (ix3 0 r e) := funext fun e => by
        unfold source
        rw [dif_neg (by simp only; omega), dif_pos (by simp only; omega)]
        exact congrArg (fun z => x0 (ix3 0 z e)) (Fin.ext (by simp only; omega))
      rw [h1]
      exact congrArg (normedRow _ _ _ _) (Fin.ext (Nat.zero_add _).symm)
    · obtain ⟨r, e, rfl⟩ : ∃ (r : Fin 16) (e : Fin 1024), x = ix2 r e := ⟨x 0, x 1, eq_ix2 x⟩
      refine (halo_before_read x5 x4 x3 x1 r e).trans ?_
      rw [emb2 inb_S288x1024_S16x1024_0_0 r e (by omega) (by omega)]
      show _ = normedRow (source x0 x1 x2 ⟨0 + r.val, _⟩) _ _ _ ⟨0 + e.val, _⟩
      have h1 : source x0 x1 x2 ⟨0 + r.val, by omega⟩ = fun e => x1 (ix3 0 r e) := funext fun e => by
        unfold source
        rw [dif_pos (by simp only; omega)]
        exact congrArg (fun z => x1 (ix3 0 z e)) (Fin.ext (by simp only; omega))
      rw [h1]
      exact congrArg (normedRow _ _ _ _) (Fin.ext (Nat.zero_add _).symm)
  · have hy : y = ix2 (y 0) (y 1) := eq_ix2 y
    by_cases h : (y 0).val < 16
    · refine ⟨_, List.mem_cons_of_mem _ (List.mem_cons_of_mem _ (List.mem_singleton.2 rfl)), ?_⟩
      have e := emb2 (A := 288) (B := 1024) inb_S288x1024_S16x1024_0_0 ⟨(y 0).val, h⟩ ⟨(y 1).val, he⟩ (by simp only; omega) (by simp only; omega)
      rw [show y = _ from hy.trans ((congrArg₂ ix2 (Fin.ext (by simp only; omega)) (Fin.ext (by simp only; omega))).trans e.symm)]
      exact LoadRect.idx_mem _ _
    by_cases h' : (y 0).val < 272
    · refine ⟨_, List.mem_cons_of_mem _ (List.mem_cons_self ..), ?_⟩
      have e := emb2 (A := 288) (B := 1024) inb_S288x1024_S256x1024_16_0 ⟨(y 0).val - 16, by omega⟩ ⟨(y 1).val, he⟩ (by simp only; omega) (by simp only; omega)
      rw [show y = _ from hy.trans ((congrArg₂ ix2 (Fin.ext (by simp only; omega)) (Fin.ext (by simp only; omega))).trans e.symm)]
      exact LoadRect.idx_mem _ _
    · refine ⟨_, List.mem_cons_self .., ?_⟩
      have e := emb2 (A := 288) (B := 1024) inb_S288x1024_S16x1024_272_0 ⟨(y 0).val - 272, by omega⟩ ⟨(y 1).val, he⟩ (by simp only; omega) (by simp only; omega)
      rw [show y = _ from hy.trans ((congrArg₂ ix2 (Fin.ext (by simp only; omega)) (Fin.ext (by simp only; omega))).trans e.symm)]
      exact LoadRect.idx_mem _ _

theorem ext_read : (View.whole cc0_scratch0).readCov (Val := Elt Ideal) (rowStores x0 x1 x2 x3 x4 x5) (Rect.unit (s := S288x1024) ![0, 0] ![288, 1024] inb_S288x1024_S288x1024_0_0).toLoadRect
    = ext x0 x1 x2 x3 x4 x5 := by
  rw [View.readCov_eq_canon', rows_kept]
  funext y
  exact congrArg (ext x0 x1 x2 x3 x4 x5) (funext fun a => Fin.ext (by
    show (![0, 0] : Fin 2 → ℕ) a + 1 * (y a).val = (y a).val
    have : (![0, 0] : Fin 2 → ℕ) a = 0 := by revert a; decide
    omega))

theorem mid_read : (View.whole cc0_scratch0).readCov (Val := Elt Ideal) (rowStores x0 x1 x2 x3 x4 x5) (Rect.unit (s := S288x1024) ![16, 0] ![256, 1024] inb_S288x1024_S256x1024_16_0).toLoadRect
    = mid x0 x3 x4 x5 := by
  rw [View.readCov_eq_canon', rows_kept]
  funext y
  obtain ⟨r, e, rfl⟩ : ∃ (r : Fin 256) (e : Fin 1024), y = ix2 r e := ⟨y 0, y 1, eq_ix2 y⟩
  refine (congrArg (ext x0 x1 x2 x3 x4 x5) (emb2 (A := 288) (B := 1024) inb_S288x1024_S256x1024_16_0 r e (by omega) (by omega))).trans ?_
  show normedRow (source x0 x1 x2 ⟨16 + r.val, _⟩) _ _ _ ⟨0 + e.val, _⟩ = normedRow _ _ _ _ e
  have h1 : source x0 x1 x2 ⟨16 + r.val, by omega⟩ = fun e => x0 (ix3 0 r e) := funext fun e => by
    unfold source
    rw [dif_neg (by simp only; omega), dif_pos (by simp only; omega)]
    exact congrArg (fun z => x0 (ix3 0 z e)) (Fin.ext (by simp only; omega))
  rw [h1]
  exact congrArg (normedRow _ _ _ _) (Fin.ext (Nat.zero_add _))

/-! ## Four tiles side by side -/

theorem tile_inb (j : Fin 4) : ∀ a, (![0, 0, 256 * j.val] : Fin S1x256x1024.rank → ℕ) a + S1x256x256.size a ≤ S1x256x1024.size a := by
  revert j; decide +kernel

theorem flat_inb (j : Fin 4) : ∀ a, (![0, 256 * j.val] : Fin S256x1024.rank → ℕ) a + S256x256.size a ≤ S256x1024.size a := by
  revert j; decide +kernel

/-- Four tiles of 256 lanes, side by side. -/
def tiled {e : FTy} (T : Fin 4 → Fin 256 → Fin 256 → EReal) : FVec Ideal S1x256x1024 e :=
  fun y => T ⟨(y 2).val / 256, by have : (y 2).val < 1024 := (y 2).isLt; omega⟩ (y 1) ⟨(y 2).val % 256, by omega⟩

/-- The same without the leading axis. -/
def tiledFlat {e : FTy} (T : Fin 4 → Fin 256 → Fin 256 → EReal) : FVec Ideal S256x1024 e :=
  fun y => T ⟨(y 1).val / 256, by have : (y 1).val < 1024 := (y 1).isLt; omega⟩ (y 0) ⟨(y 1).val % 256, by omega⟩

theorem tile_at {e : FTy} (T : Fin 4 → Fin 256 → Fin 256 → EReal) (P : FVec Ideal S1x256x256 e) (j : Fin 4) (hP : ∀ r n, P (ix3 0 r n) = T j r n)
    (x : (Rect.unit (s := S1x256x1024) ![0, 0, 256 * j.val] S1x256x256.size (tile_inb j)).shape.Idx) :
    P x = tiled (e := e) T ((Rect.unit (s := S1x256x1024) ![0, 0, 256 * j.val] S1x256x256.size (tile_inb j)).emb x) := by
  have hj := j.isLt
  have h1 := ValueKit.rect_emb_unit_val (s := S1x256x1024) ![0, 0, 256 * j.val] S1x256x256.size (tile_inb j) x 1
  have h2 := ValueKit.rect_emb_unit_val (s := S1x256x1024) ![0, 0, 256 * j.val] S1x256x256.size (tile_inb j) x 2
  have h1' : ((Rect.unit (s := S1x256x1024) ![0, 0, 256 * j.val] S1x256x256.size (tile_inb j)).emb x 1).val = (x 1).val := h1.trans (Nat.zero_add _)
  have h2' : ((Rect.unit (s := S1x256x1024) ![0, 0, 256 * j.val] S1x256x256.size (tile_inb j)).emb x 2).val = 256 * j.val + (x 2).val := h2
  have hx2 : (x 2).val < 256 := (x 2).isLt
  have hx0 : (x 0).val < 1 := (x 0).isLt
  have hx : x = ix3 (0 : Fin 1) (x 1 : Fin 256) (x 2 : Fin 256) := funext fun a => by
    match a with
    | ⟨0, _⟩ => exact Fin.ext (by show (x 0).val = 0; omega)
    | ⟨1, _⟩ => rfl
    | ⟨2, _⟩ => rfl
  refine (congrArg P hx).trans ((hP (x 1) (x 2)).trans ?_)
  unfold tiled
  have e1 : j = ⟨((Rect.unit (s := S1x256x1024) ![0, 0, 256 * j.val] S1x256x256.size (tile_inb j)).emb x 2).val / 256, by omega⟩ := Fin.ext (by simp only [h2']; omega)
  have e2 : (x 1 : Fin 256) = (Rect.unit (s := S1x256x1024) ![0, 0, 256 * j.val] S1x256x256.size (tile_inb j)).emb x 1 := Fin.ext h1'.symm
  have e3 : (x 2 : Fin 256) = ⟨((Rect.unit (s := S1x256x1024) ![0, 0, 256 * j.val] S1x256x256.size (tile_inb j)).emb x 2).val % 256, by omega⟩ := Fin.ext (by simp only [h2']; omega)
  exact (congrArg (fun z => T z (x 1) (x 2)) e1).trans ((congrArg (fun z => T _ z (x 2)) e2).trans (congrArg (fun z => T _ _ z) e3))

theorem flat_at {e : FTy} (T : Fin 4 → Fin 256 → Fin 256 → EReal) (P : FVec Ideal S256x256 e) (j : Fin 4) (hP : ∀ r n, P (ix2 r n) = T j r n)
    (x : (Rect.unit (s := S256x1024) ![0, 256 * j.val] S256x256.size (flat_inb j)).shape.Idx) :
    P x = tiledFlat (e := e) T ((Rect.unit (s := S256x1024) ![0, 256 * j.val] S256x256.size (flat_inb j)).emb x) := by
  have hj := j.isLt
  have h1 := ValueKit.rect_emb_unit_val (s := S256x1024) ![0, 256 * j.val] S256x256.size (flat_inb j) x 0
  have h2 := ValueKit.rect_emb_unit_val (s := S256x1024) ![0, 256 * j.val] S256x256.size (flat_inb j) x 1
  have h1' : ((Rect.unit (s := S256x1024) ![0, 256 * j.val] S256x256.size (flat_inb j)).emb x 0).val = (x 0).val := h1.trans (Nat.zero_add _)
  have h2' : ((Rect.unit (s := S256x1024) ![0, 256 * j.val] S256x256.size (flat_inb j)).emb x 1).val = 256 * j.val + (x 1).val := h2
  have hx2 : (x 1).val < 256 := (x 1).isLt
  have hx : x = ix2 (x 0 : Fin 256) (x 1 : Fin 256) := eq_ix2 x
  refine (congrArg P hx).trans ((hP (x 0) (x 1)).trans ?_)
  unfold tiledFlat
  have e1 : j = ⟨((Rect.unit (s := S256x1024) ![0, 256 * j.val] S256x256.size (flat_inb j)).emb x 1).val / 256, by omega⟩ := Fin.ext (by simp only [h2']; omega)
  have e2 : (x 0 : Fin 256) = (Rect.unit (s := S256x1024) ![0, 256 * j.val] S256x256.size (flat_inb j)).emb x 0 := Fin.ext h1'.symm
  have e3 : (x 1 : Fin 256) = ⟨((Rect.unit (s := S256x1024) ![0, 256 * j.val] S256x256.size (flat_inb j)).emb x 1).val % 256, by omega⟩ := Fin.ext (by simp only [h2']; omega)
  exact (congrArg (fun z => T z (x 0) (x 1)) e1).trans ((congrArg (fun z => T _ z (x 1)) e2).trans (congrArg (fun z => T _ _ z) e3))

theorem head_inb (a b : ℕ) (j : Fin 4) : ∀ k, (![0, j.val, 0, 0] : Fin 4 → ℕ) k + (![1, 1, a, b] : Fin 4 → ℕ) k ≤ (⟨4, ![1, 4, a, b]⟩ : Shape).size k := by
  have hj := j.isLt
  intro k
  match k with
  | ⟨0, _⟩ => exact Nat.le_refl 1
  | ⟨1, _⟩ => show j.val + 1 ≤ 4; omega
  | ⟨2, _⟩ => show 0 + a ≤ a; omega
  | ⟨3, _⟩ => show 0 + b ≤ b; omega

/-- Four heads, one behind the other. -/
def stacked {a b : ℕ} {e : FTy} (T : Fin 4 → Fin a → Fin b → EReal) : FVec Ideal (⟨4, ![1, 4, a, b]⟩ : Shape) e := fun y => T (y 1) (y 2) (y 3)

theorem head_at {a b : ℕ} {e : FTy} (T : Fin 4 → Fin a → Fin b → EReal) (P : FVec Ideal (⟨4, ![1, 1, a, b]⟩ : Shape) e) (j : Fin 4)
    (hP : ∀ r n, P (ix4 0 0 r n) = T j r n)
    (x : (Rect.unit (s := ⟨4, ![1, 4, a, b]⟩) ![0, j.val, 0, 0] ![1, 1, a, b] (head_inb a b j)).shape.Idx) :
    P x = stacked (e := e) T ((Rect.unit (s := ⟨4, ![1, 4, a, b]⟩) ![0, j.val, 0, 0] ![1, 1, a, b] (head_inb a b j)).emb x) := by
  have h1 := ValueKit.rect_emb_unit_val (s := ⟨4, ![1, 4, a, b]⟩) ![0, j.val, 0, 0] ![1, 1, a, b] (head_inb a b j) x 1
  have h2 := ValueKit.rect_emb_unit_val (s := ⟨4, ![1, 4, a, b]⟩) ![0, j.val, 0, 0] ![1, 1, a, b] (head_inb a b j) x 2
  have h3 := ValueKit.rect_emb_unit_val (s := ⟨4, ![1, 4, a, b]⟩) ![0, j.val, 0, 0] ![1, 1, a, b] (head_inb a b j) x 3
  have hx0 : (x 0).val < 1 := (x 0).isLt
  have hx1 : (x 1).val < 1 := (x 1).isLt
  have hx : x = ix4 (0 : Fin 1) (0 : Fin 1) (x 2 : Fin a) (x 3 : Fin b) := funext fun k => by
    match k with
    | ⟨0, _⟩ => exact Fin.ext (by show (x 0).val = 0; omega)
    | ⟨1, _⟩ => exact Fin.ext (by show (x 1).val = 0; omega)
    | ⟨2, _⟩ => rfl
    | ⟨3, _⟩ => rfl
  refine (congrArg P hx).trans ((hP (x 2) (x 3)).trans ?_)
  generalize hy : (Rect.unit (s := ⟨4, ![1, 4, a, b]⟩) ![0, j.val, 0, 0] ![1, 1, a, b] (head_inb a b j)).emb x = y at h1 h2 h3
  unfold stacked
  have e1 : j = y 1 := Fin.ext (by rw [h1]; show j.val = j.val + (x 1).val; omega)
  have e2 : (x 2 : Fin a) = y 2 := Fin.ext (by rw [h2]; exact (Nat.zero_add _).symm)
  have e3 : (x 3 : Fin b) = y 3 := Fin.ext (by rw [h3]; exact (Nat.zero_add _).symm)
  exact (congrArg (fun z => T z (x 2) (x 3)) e1).trans ((congrArg (fun z => T _ z (x 3)) e2).trans (congrArg (fun z => T _ _ z) e3))

end Cert.Proj
-- ==== Proof.ProjTile.lean ====
/-
  The tiles the projection kernel stores, each as a formula over the normed rows and the blocks.
-/
module

public import proofs.«01_k».proof.Proof.ProjBody

@[expose] public section

noncomputable section

namespace Cert.Proj

open Idealize.ShloMosaic Cert.ProjectionIdeal Cert.ProjectionIdeal.Gen Cert.Layer Cert.ProjLayer

variable (h : FVec Ideal S256x1024 .bf16) (w : FVec Ideal S1024x8704 .bf16)

/-- The output gate. -/
def szaTile (j : Fin 4) (r n : Fin 256) : EReal := silu (wide h w r ⟨1536 + 256 * j.val + n.val, by omega⟩)

theorem sza_piece (j : Fin 4) (r n : Fin 256) : k0_pay35 (F := Ideal) h (cols w (1536 + 256 * j.val) (by omega)) (ix3 0 r n) = szaTile h w j r n :=
  (silu_read h _ r n).trans (congrArg silu (tileDot_cols h w _ _ r n))

/-- The values, each head's 64 lanes twice. -/
def valueTile (g : Fin 4) (i : Fin 256) (l : Fin 128) : EReal := wide h w i ⟨1280 + (64 * g.val + l.val % 64), by omega⟩

theorem value_cols (i n : Fin 256) : k0_pay11 (F := Ideal) h (cols w 1280 (by omega)) (ix2 i n) = wide h w i ⟨1280 + n.val, by omega⟩ :=
  (value_read h _ i n).trans (tileDot_cols h w _ _ i n)

theorem value_piece0 (i : Fin 256) (l : Fin 128) : k0_pay20 (F := Ideal) (k0_pay11 (F := Ideal) h (cols w 1280 (by omega))) (ix4 0 0 i l) = valueTile h w 0 i l :=
  (values_0 _ l i).trans ((value_cols h w i _).trans (congrArg (wide h w i) (Fin.ext (by show 1280 + l.val % 64 = 1280 + (64 * 0 + l.val % 64); omega))))

theorem value_piece1 (i : Fin 256) (l : Fin 128) : k0_pay21 (F := Ideal) (k0_pay11 (F := Ideal) h (cols w 1280 (by omega))) (ix4 0 0 i l) = valueTile h w 1 i l :=
  (values_1 _ l i).trans (value_cols h w i _)

theorem value_piece2 (i : Fin 256) (l : Fin 128) : k0_pay30 (F := Ideal) (k0_pay11 (F := Ideal) h (cols w 1280 (by omega))) (ix4 0 0 i l) = valueTile h w 2 i l :=
  (values_2 _ l i).trans (value_cols h w i _)

theorem value_piece3 (i : Fin 256) (l : Fin 128) : k0_pay31 (F := Ideal) (k0_pay11 (F := Ideal) h (cols w 1280 (by omega))) (ix4 0 0 i l) = valueTile h w 3 i l :=
  (values_3 _ l i).trans (value_cols h w i _)

variable (g : FVec Ideal S1x256 .f32) (o : FVec Ideal S256x256 .bf16) (tc tl th : FVec Ideal S256x128 .f32)

/-- 256 lanes of the projection from column `k`, gained and rotated, head by head, before the norm. -/
def spunTile (k : Fin 7) (i n : Fin 256) : EReal :=
  spun (fun n => wide h w i ⟨256 * k.val + n.val, by omega⟩ * g (ix2 0 n)) (fun l => tc (ix2 i l)) (fun l => tl (ix2 i l)) (fun l => th (ix2 i l)) n

/-- The reciprocal root of the mean square of the lanes the matrix `o` picks for lane `n`. -/
def headRoot (k : Fin 7) (i n : Fin 256) : EReal :=
  Ideal.rsqrt ((∑ l : Fin 256, wide h w i ⟨256 * k.val + l.val, by omega⟩ * wide h w i ⟨256 * k.val + l.val, by omega⟩ * o (ix2 l n)) * Ideal.ofBits FTy.f32 0x3C800000#32 + eps)

theorem turn_cols (k : Fin 7) (i n : Fin 256) :
    turnTile (k0_pay11 (F := Ideal) h (cols w (256 * k.val) (by omega))) g tc tl th (ix2 i n) = spunTile h w g tc tl th k i n := by
  refine (turnTile_read _ g tc tl th i n).trans ?_
  unfold spunTile
  refine congrArg (fun f => spun f _ _ _ n) (funext fun n => congrArg (· * g (ix2 0 n)) ?_)
  exact (value_read h _ i n).trans (tileDot_cols h w _ _ i n)

theorem root_cols (k : Fin 7) (i n : Fin 256) :
    rootTile (k0_pay11 (F := Ideal) h (cols w (256 * k.val) (by omega))) o (ix2 i n) = headRoot h w o k i n := by
  refine (rootTile_read _ o i n).trans ?_
  unfold headRoot
  refine congrArg (fun z => Ideal.rsqrt (z * _ + eps)) (Finset.sum_congr rfl fun l _ => ?_)
  rw [show k0_pay11 (F := Ideal) h (cols w (256 * k.val) (by omega)) (ix2 i l) = _ from (value_read h _ i l).trans (tileDot_cols h w _ _ i l)]

/-- The queries. -/
def queryTile (j : Fin 4) (r n : Fin 256) : EReal := spunTile h w g tc tl th ⟨j.val, by omega⟩ r n * (headRoot h w o ⟨j.val, by omega⟩ r n * scale)

theorem query_piece (j : Fin 4) (r n : Fin 256) :
    k0_pay34 (F := Ideal) (k0_pay33 (F := Ideal) (k0_pay11 (F := Ideal) h (cols w (256 * j.val) (by omega))) g o tc tl th) (ix3 0 r n) = queryTile h w g o tc tl th j r n := by
  refine (query_read _ g o tc tl th r n).trans ?_
  unfold queryTile
  exact congrArg₂ (fun a b => a * (b * scale)) (turn_cols h w g tc tl th ⟨j.val, by omega⟩ r n) (root_cols h w o ⟨j.val, by omega⟩ r n)

/-- The keys, a head's 64 lanes twice, lanes down and positions across. -/
def keyTile (j : Fin 4) (l : Fin 128) (i : Fin 256) : EReal :=
  spunTile h w g tc tl th 4 i ⟨64 * j.val + l.val % 64, by omega⟩ * headRoot h w o 4 i ⟨64 * j.val + l.val % 64, by omega⟩

/-- The keys before they are laid out. -/
abbrev keyRows : FVec Ideal S256x256 .f32 := k0_pay10 (F := Ideal) h (k0_pay9 (F := Ideal) (cols w 1024 (by omega))) g o tc tl th

/-- Their first two heads. -/
abbrev keyLow : FVec Ideal S256x128 .f32 := k0_pay12 (F := Ideal) h (k0_pay9 (F := Ideal) (cols w 1024 (by omega))) g o tc tl th

theorem key_cols (i n : Fin 256) : keyRows h w g o tc tl th (ix2 i n) = spunTile h w g tc tl th 4 i n * headRoot h w o 4 i n :=
  (key_read h _ g o tc tl th i n).trans (congrArg₂ (· * ·) (turn_cols h w g tc tl th 4 i n) (root_cols h w o 4 i n))

theorem key_piece0 (l : Fin 128) (i : Fin 256) : k0_pay15 (F := Ideal) (keyLow h w g o tc tl th) (ix4 0 0 l i) = keyTile h w g o tc tl th 0 l i := by
  refine (keys_even (keyRows h w g o tc tl th) l i).trans ((key_cols h w g o tc tl th i _).trans ?_)
  unfold keyTile
  have e : (⟨l.val % 64, by omega⟩ : Fin 256) = ⟨64 * (0 : Fin 4).val + l.val % 64, by omega⟩ := Fin.ext (by show l.val % 64 = 64 * 0 + l.val % 64; omega)
  rw [e]

theorem key_piece1 (l : Fin 128) (i : Fin 256) : k0_pay16 (F := Ideal) (keyLow h w g o tc tl th) (ix4 0 0 l i) = keyTile h w g o tc tl th 1 l i :=
  (keys_odd (keyRows h w g o tc tl th) l i).trans (key_cols h w g o tc tl th i _)

theorem key_piece2 (l : Fin 128) (i : Fin 256) :
    k0_pay25 (F := Ideal) (k0_pay22 (keyRows h w g o tc tl th)) (k0_pay23 (keyRows h w g o tc tl th)) (iota .tc S256x128 32 [1] iota_S256x128_d1_w32) 64#32 (ix4 0 0 l i)
      = keyTile h w g o tc tl th 2 l i :=
  (keys_even' _ l i).trans (key_cols h w g o tc tl th i _)

theorem key_piece3 (l : Fin 128) (i : Fin 256) :
    k0_pay26 (F := Ideal) (k0_pay22 (keyRows h w g o tc tl th)) (k0_pay23 (keyRows h w g o tc tl th)) (iota .tc S256x128 32 [1] iota_S256x128_d1_w32) 64#32 (ix4 0 0 l i)
      = keyTile h w g o tc tl th 3 l i :=
  (keys_odd' _ l i).trans (key_cols h w g o tc tl th i _)

theorem bias_inb (k : Fin 2) (j : Fin 4) : ∀ a, (![k.val, 256 * j.val] : Fin S2x1024.rank → ℕ) a + S1x256.size a ≤ S2x1024.size a := by
  revert k j; decide +kernel

/-- A part of the gates' biases. -/
abbrev biasPart (b : FVec Ideal S2x1024 .f32) (k : Fin 2) (j : Fin 4) : FVec Ideal S1x256 .f32 :=
  View.ld (Val := Elt Ideal) (e' := .f32) b (Rect.unit (s := S2x1024) ![k.val, 256 * j.val] S1x256.size (bias_inb k j))

theorem biasPart_read (b : FVec Ideal S2x1024 .f32) (k : Fin 2) (j : Fin 4) (n : Fin 256) : biasPart b k j (ix2 0 n) = b (ix2 k ⟨256 * j.val + n.val, by omega⟩) :=
  ld2 (e := .f32) b k.val (256 * j.val) (bias_inb k j) 0 n (by simp only [Fin.val_zero]; omega) (by omega)

/-- Merge gate `k`. -/
def gateTile (b : FVec Ideal S2x1024 .f32) (k : Fin 2) (j : Fin 4) (r n : Fin 256) : EReal :=
  Ideal.logistic (wide h w r ⟨6656 + 1024 * k.val + 256 * j.val + n.val, by omega⟩ + b (ix2 k ⟨256 * j.val + n.val, by omega⟩))

theorem gate_piece (b : FVec Ideal S2x1024 .f32) (j : Fin 4) (r n : Fin 256) :
    k0_pay78 (F := Ideal) h (cols w (6656 + 256 * j.val) (by omega)) (biasPart b 0 j) (ix3 0 r n) = gateTile h w b 0 j r n := by
  refine (gate_read h _ _ r n).trans ?_
  rw [tileDot_cols, biasPart_read]
  rfl

theorem merge_inb (j : Fin 4) : ∀ a, (![0, 256 * j.val] : Fin S1024x1024.rank → ℕ) a + S1024x256.size a ≤ S1024x1024.size a := by
  revert j; decide +kernel

abbrev mergePart (v : FVec Ideal S1024x1024 .bf16) (j : Fin 4) : FVec Ideal S1024x256 .bf16 :=
  View.ld (Val := Elt Ideal) (e' := .bf16) v (Rect.unit (s := S1024x1024) ![0, 256 * j.val] S1024x256.size (merge_inb j))

/-- The local branch, gated. -/
def mergeTile (y : FVec Ideal S256x1024 .bf16) (b : FVec Ideal S2x1024 .f32) (v : FVec Ideal S1024x1024 .bf16) (j : Fin 4) (r n : Fin 256) : EReal :=
  gateTile h w b 1 j r n * ∑ e : Fin 1024, y (ix2 r e) * v (ix2 e ⟨256 * j.val + n.val, by omega⟩)

theorem merge_piece (y : FVec Ideal S256x1024 .bf16) (b : FVec Ideal S2x1024 .f32) (v : FVec Ideal S1024x1024 .bf16) (j : Fin 4) (r n : Fin 256) :
    k0_pay82 (F := Ideal) h y (cols w (7680 + 256 * j.val) (by omega)) (biasPart b 1 j) (mergePart v j) (ix3 0 r n) = mergeTile h w y b v j r n := by
  refine (branch_read h y _ _ _ r n).trans ?_
  rw [tileDot_cols, biasPart_read]
  unfold mergeTile
  refine congrArg₂ (· * ·) rfl (Finset.sum_congr rfl fun e _ => congrArg (y (ix2 r e) * ·) ?_)
  exact (ld2 (e := .bf16) v 0 (256 * j.val) (merge_inb j) e n (by omega) (by omega)).trans (congrArg (fun z => v (ix2 z _)) (Fin.ext (Nat.zero_add _)))

/-! ## The local convolution -/

/-- The product the local convolution runs over, on the 288 rows. -/
def convTile (hx : FVec Ideal S288x1024 .bf16) (j : Fin 4) (r : Fin 288) (n : Fin 256) : EReal :=
  wide hx w r ⟨4608 + 256 * j.val + n.val, by omega⟩ * wide hx w r ⟨2560 + 256 * j.val + n.val, by omega⟩

/-- The 288 rows of that product as they lie in the scratch. -/
abbrev convRows (hx : FVec Ideal S288x1024 .bf16) (j : Fin 4) : FVec Ideal S288x256 .f32 :=
  k0_pay63 (F := Ideal) hx (cols w (4608 + 256 * j.val) (by omega)) (cols w (2560 + 256 * j.val) (by omega))

theorem part_inb (q : ℕ) (hq : q + 256 ≤ 288) : ∀ a, (![q, 0] : Fin S288x256.rank → ℕ) a + S256x256.size a ≤ S288x256.size a := by
  intro a
  match a with
  | ⟨0, _⟩ => exact hq
  | ⟨1, _⟩ => exact Nat.le_refl 256

/-- 256 of those rows. -/
abbrev convPart (hx : FVec Ideal S288x1024 .bf16) (j : Fin 4) (q : ℕ) (hq : q + 256 ≤ 288) : FVec Ideal S256x256 .f32 :=
  View.ld (Val := Elt Ideal) (e' := .f32) (convRows w hx j) (Rect.unit (s := S288x256) ![q, 0] S256x256.size (part_inb q hq))

theorem convPart_read (hx : FVec Ideal S288x1024 .bf16) (j : Fin 4) (q : ℕ) (hq : q + 256 ≤ 288) (r n : Fin 256) :
    convPart w hx j q hq (ix2 r n) = convTile w hx j ⟨q + r.val, by omega⟩ n := by
  refine (ld2 (e := .f32) (convRows w hx j) q 0 (part_inb q hq) r n (by omega) (by omega)).trans ?_
  refine (congrArg (fun z => convRows w hx j (ix2 _ z)) (Fin.ext (Nat.zero_add _) : (⟨0 + n.val, by omega⟩ : Fin 256) = n)).trans ?_
  refine (conved_read hx _ _ _ n).trans ?_
  rw [tileDot_cols, tileDot_cols]
  rfl

theorem taps_inb (k : Fin 3) (j : Fin 4) : ∀ a, (![k.val, 256 * j.val] : Fin S3x1024.rank → ℕ) a + S1x256.size a ≤ S3x1024.size a := by
  revert k j; decide +kernel

/-- A part of the convolution's weights. -/
abbrev tapPart (b : FVec Ideal S3x1024 .f32) (k : Fin 3) (j : Fin 4) : FVec Ideal S1x256 .f32 :=
  View.ld (Val := Elt Ideal) (e' := .f32) b (Rect.unit (s := S3x1024) ![k.val, 256 * j.val] S1x256.size (taps_inb k j))

theorem tapPart_read (b : FVec Ideal S3x1024 .f32) (k : Fin 3) (j : Fin 4) (n : Fin 256) : tapPart b k j (ix2 0 n) = b (ix2 k ⟨256 * j.val + n.val, by omega⟩) :=
  ld2 (e := .f32) b k.val (256 * j.val) (taps_inb k j) 0 n (by simp only [Fin.val_zero]; omega) (by omega)

theorem convBias_inb (j : Fin 4) : ∀ a, (![0, 256 * j.val] : Fin S1x1024.rank → ℕ) a + S1x256.size a ≤ S1x1024.size a := by
  revert j; decide +kernel

/-- A part of the convolution's bias. -/
abbrev convBiasPart (b : FVec Ideal S1x1024 .f32) (j : Fin 4) : FVec Ideal S1x256 .f32 :=
  View.ld (Val := Elt Ideal) (e' := .f32) b (Rect.unit (s := S1x1024) ![0, 256 * j.val] S1x256.size (convBias_inb j))

theorem convBiasPart_read (b : FVec Ideal S1x1024 .f32) (j : Fin 4) (n : Fin 256) : convBiasPart b j (ix2 0 n) = b (ix2 0 ⟨256 * j.val + n.val, by omega⟩) :=
  ld2 (e := .f32) b 0 (256 * j.val) (convBias_inb j) 0 n (by simp only [Fin.val_zero]; omega) (by omega)

/-- The local branch's lanes: the convolution along the rows with its bias, between the two gates. `i` is the block of rows. -/
def branchTile (hx : FVec Ideal S288x1024 .bf16) (cw : FVec Ideal S3x1024 .f32) (cb : FVec Ideal S1x1024 .f32) (i : Fin 8) (j : Fin 4) (r n : Fin 256) : EReal :=
  wide h w r ⟨3584 + 256 * j.val + n.val, by omega⟩
    * ((if r.val = 0 ∧ i.val = 0 then 0 else convTile w hx j ⟨15 + r.val, by omega⟩ n * cw (ix2 0 ⟨256 * j.val + n.val, by omega⟩))
      + convTile w hx j ⟨16 + r.val, by omega⟩ n * cw (ix2 1 ⟨256 * j.val + n.val, by omega⟩)
      + (if r.val = 255 ∧ i.val = 7 then 0 else convTile w hx j ⟨17 + r.val, by omega⟩ n * cw (ix2 2 ⟨256 * j.val + n.val, by omega⟩))
      + cb (ix2 0 ⟨256 * j.val + n.val, by omega⟩))
    * silu (wide h w r ⟨5632 + 256 * j.val + n.val, by omega⟩)

theorem branch_piece (hx : FVec Ideal S288x1024 .bf16) (cw : FVec Ideal S3x1024 .f32) (cb : FVec Ideal S1x1024 .f32) (i : Fin 8) (j : Fin 4) (r n : Fin 256) :
    k0_pay73 (F := Ideal) h (k0_pay61 (BitVec.ofNat 32 i.val)) (k0_pay62 (BitVec.ofNat 32 i.val))
      (convPart w hx j 15 (by omega)) (Scalar.ofBits .f32 0x00000000#32) (convPart w hx j 17 (by omega)) (tapPart cw 0 j) (convPart w hx j 16 (by omega)) (tapPart cw 1 j) (tapPart cw 2 j) (convBiasPart cb j)
      (cols w (3584 + 256 * j.val) (by omega)) (cols w (5632 + 256 * j.val) (by omega)) (ix2 r n)
      = branchTile h w hx cw cb i j r n := by
  refine (gated_read h _ _ _ _ _ _ _ _ _ _ _ r n).trans ?_
  rw [tileDot_cols, tileDot_cols, convPart_read, convPart_read, convPart_read, tapPart_read, tapPart_read, tapPart_read, convBiasPart_read]
  unfold branchTile
  refine congrArg (· * silu _) (congrArg (_ * ·) ?_)
  refine congrArg (· + cb _) (congrArg₂ (· + ·) (congrArg (· + _) ?_) ?_)
  · exact ite_congr (first_read i r n) (fun _ => rfl) fun _ => rfl
  · exact ite_congr (last_read i r n) (fun _ => rfl) fun _ => rfl

end Cert.Proj
-- ==== Proof.ProjRun.lean ====
/-
  The projection's body run over its parts: what each of the buffers it writes ends with. The set-up
  of the launch, with room for its size.
-/
module

public import proofs.«01_k».proof.Proof.Gen.ProjectionIdeal.Frame.Runs

@[expose] public section

set_option maxRecDepth 16384

noncomputable section

namespace Cert.ProjectionIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8704 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S2x1024 .f32) (harg18 : arg18.IsWhole) (arg19 : Memref sig .tc .vmem S1x256x1024 .bf16) (harg19 : arg19.IsWhole) (arg20 : Memref sig .tc .vmem S1x4x128x256 .bf16) (harg20 : arg20.IsWhole) (arg21 : Memref sig .tc .vmem S1x4x256x128 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .f32) (harg24 : arg24.IsWhole) (arg25 : Memref sig .tc .vmem S288x1024 .bf16) (harg25 : arg25.IsWhole) (arg26 : Memref sig .tc .vmem S288x256 .f32) (harg26 : arg26.IsWhole) (arg27 : Memref sig .tc .vmem S256x1024 .bf16) (harg27 : arg27.IsWhole)
    (x0 : Vec F S1x256x1024 .f32) (x1 : Vec F S1x16x1024 .f32) (x2 : Vec F S1x16x1024 .f32) (x3 : Vec F S1x1x1024 .f32) (x4 : Vec F S1x1x1024 .f32) (x5 : Vec F S1x1024 .f32) (x6 : Vec F S1024x8704 .bf16) (x7 : Vec F S1x256 .f32) (x8 : Vec F S1x256 .f32) (x9 : Vec F S256x256 .bf16) (x10 : Vec F S2048x128 .f32) (x11 : Vec F S2048x128 .f32) (x12 : Vec F S2048x128 .f32) (x13 : Vec F S3x1024 .f32) (x14 : Vec F S1x1024 .f32) (x15 : Vec F S1024x1024 .bf16) (x16 : Vec F S2x1024 .f32) :
    Σ' (L17 : List (View.Piece (Elt F) S1x256x1024 .bf16)), Σ' (L18 : List (View.Piece (Elt F) S1x4x128x256 .bf16)), Σ' (L19 : List (View.Piece (Elt F) S1x4x256x128 .bf16)), Σ' (L20 : List (View.Piece (Elt F) S1x256x1024 .bf16)), Σ' (L21 : List (View.Piece (Elt F) S1x256x1024 .bf16)), Σ' (L22 : List (View.Piece (Elt F) S1x256x1024 .f32)), Σ' (LT0 : List (View.Piece (Elt F) S288x1024 .bf16)), Σ' (LT1 : List (View.Piece (Elt F) S288x256 .f32)), { LT2 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f LT0) ∗ (∃ f, arg26.view.loc (c : Thread nD τ) ↦[arg26.view.set]{fullShare} arg26.view.writes (Elt F) f LT1) ∗ (∃ f, arg27.view.loc (c : Thread nD τ) ↦[arg27.view.set]{fullShare} arg27.view.writes (Elt F) f LT2)) -∗ K ⟨⟩))
          ⊢ wp frame (wpE (defs₀ (F := F)) Variants.none c none) E (cc0_projection_full i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, fun E K => ?run⟩
  case run =>
    simp only [cc0_projection_full_eq_skeleton]; unfold cc0_projection_full_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexists _; iexact HS0
    isplitl [HS1]; · iexists _; iexact HS1
    iexists _; iexact HS2

end Cert.ProjectionIdeal.Gen

end
-- ==== Proof.ProjFrame.lean ====
/-
  The projection's launch: what its outputs hold at each point, the body's obligation, the whole run
  and the frame.
-/
module

public import proofs.«01_k».proof.Proof.ProjRun
public import Idealize.ShloMosaic.Lib.Claim

@[expose] public section

set_option maxRecDepth 16384

noncomputable section

namespace Cert.ProjectionIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 17 tile its block (4 stores of `S1x256x256`, checked by the kernel's evaluation: Lib/Ring.lean `Piece.tiledL`, linear in the pieces, through a loop's `@[irreducible]` trip theorem too), so they cover it. -/
theorem cover0_A_17 (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8704 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S2x1024 .f32) (harg18 : arg18.IsWhole) (arg19 : Memref sig .tc .vmem S1x256x1024 .bf16) (harg19 : arg19.IsWhole) (arg20 : Memref sig .tc .vmem S1x4x128x256 .bf16) (harg20 : arg20.IsWhole) (arg21 : Memref sig .tc .vmem S1x4x256x128 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .f32) (harg24 : arg24.IsWhole) (arg25 : Memref sig .tc .vmem S288x1024 .bf16) (harg25 : arg25.IsWhole) (arg26 : Memref sig .tc .vmem S288x256 .f32) (harg26 : arg26.IsWhole) (arg27 : Memref sig .tc .vmem S256x1024 .bf16) (harg27 : arg27.IsWhole)
    (x0 : Vec F S1x256x1024 .f32) (x1 : Vec F S1x16x1024 .f32) (x2 : Vec F S1x16x1024 .f32) (x3 : Vec F S1x1x1024 .f32) (x4 : Vec F S1x1x1024 .f32) (x5 : Vec F S1x1024 .f32) (x6 : Vec F S1024x8704 .bf16) (x7 : Vec F S1x256 .f32) (x8 : Vec F S1x256 .f32) (x9 : Vec F S256x256 .bf16) (x10 : Vec F S2048x128 .f32) (x11 : Vec F S2048x128 .f32) (x12 : Vec F S2048x128 .f32) (x13 : Vec F S3x1024 .f32) (x14 : Vec F S1x1024 .f32) (x15 : Vec F S1024x1024 .bf16) (x16 : Vec F S2x1024 .f32) (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).1 S1x256x256.size (by sl_kernel_rfl) y

/-- What the run leaves in output 17's staging buffer: its pieces read back over junk. -/
def out0_A_17 (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8704 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S2x1024 .f32) (harg18 : arg18.IsWhole) (arg19 : Memref sig .tc .vmem S1x256x1024 .bf16) (harg19 : arg19.IsWhole) (arg20 : Memref sig .tc .vmem S1x4x128x256 .bf16) (harg20 : arg20.IsWhole) (arg21 : Memref sig .tc .vmem S1x4x256x128 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .f32) (harg24 : arg24.IsWhole) (arg25 : Memref sig .tc .vmem S288x1024 .bf16) (harg25 : arg25.IsWhole) (arg26 : Memref sig .tc .vmem S288x256 .f32) (harg26 : arg26.IsWhole) (arg27 : Memref sig .tc .vmem S256x1024 .bf16) (harg27 : arg27.IsWhole)
    (x0 : Vec F S1x256x1024 .f32) (x1 : Vec F S1x16x1024 .f32) (x2 : Vec F S1x16x1024 .f32) (x3 : Vec F S1x1x1024 .f32) (x4 : Vec F S1x1x1024 .f32) (x5 : Vec F S1x1024 .f32) (x6 : Vec F S1024x8704 .bf16) (x7 : Vec F S1x256 .f32) (x8 : Vec F S1x256 .f32) (x9 : Vec F S256x256 .bf16) (x10 : Vec F S2048x128 .f32) (x11 : Vec F S2048x128 .f32) (x12 : Vec F S2048x128 .f32) (x13 : Vec F S3x1024 .f32) (x14 : Vec F S1x1024 .f32) (x15 : Vec F S1024x1024 .bf16) (x16 : Vec F S2x1024 .f32) : Vec F S1x256x1024 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).1)

/-- The run's pieces for output 18 tile its block (4 stores of `S1x1x128x256`, checked by the kernel's evaluation: Lib/Ring.lean `Piece.tiledL`, linear in the pieces, through a loop's `@[irreducible]` trip theorem too), so they cover it. -/
theorem cover0_A_18 (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8704 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S2x1024 .f32) (harg18 : arg18.IsWhole) (arg19 : Memref sig .tc .vmem S1x256x1024 .bf16) (harg19 : arg19.IsWhole) (arg20 : Memref sig .tc .vmem S1x4x128x256 .bf16) (harg20 : arg20.IsWhole) (arg21 : Memref sig .tc .vmem S1x4x256x128 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .f32) (harg24 : arg24.IsWhole) (arg25 : Memref sig .tc .vmem S288x1024 .bf16) (harg25 : arg25.IsWhole) (arg26 : Memref sig .tc .vmem S288x256 .f32) (harg26 : arg26.IsWhole) (arg27 : Memref sig .tc .vmem S256x1024 .bf16) (harg27 : arg27.IsWhole)
    (x0 : Vec F S1x256x1024 .f32) (x1 : Vec F S1x16x1024 .f32) (x2 : Vec F S1x16x1024 .f32) (x3 : Vec F S1x1x1024 .f32) (x4 : Vec F S1x1x1024 .f32) (x5 : Vec F S1x1024 .f32) (x6 : Vec F S1024x8704 .bf16) (x7 : Vec F S1x256 .f32) (x8 : Vec F S1x256 .f32) (x9 : Vec F S256x256 .bf16) (x10 : Vec F S2048x128 .f32) (x11 : Vec F S2048x128 .f32) (x12 : Vec F S2048x128 .f32) (x13 : Vec F S3x1024 .f32) (x14 : Vec F S1x1024 .f32) (x15 : Vec F S1024x1024 .bf16) (x16 : Vec F S2x1024 .f32) (y : S1x4x128x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.1 S1x1x128x256.size (by sl_kernel_rfl) y

/-- What the run leaves in output 18's staging buffer: its pieces read back over junk. -/
def out0_A_18 (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8704 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S2x1024 .f32) (harg18 : arg18.IsWhole) (arg19 : Memref sig .tc .vmem S1x256x1024 .bf16) (harg19 : arg19.IsWhole) (arg20 : Memref sig .tc .vmem S1x4x128x256 .bf16) (harg20 : arg20.IsWhole) (arg21 : Memref sig .tc .vmem S1x4x256x128 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .f32) (harg24 : arg24.IsWhole) (arg25 : Memref sig .tc .vmem S288x1024 .bf16) (harg25 : arg25.IsWhole) (arg26 : Memref sig .tc .vmem S288x256 .f32) (harg26 : arg26.IsWhole) (arg27 : Memref sig .tc .vmem S256x1024 .bf16) (harg27 : arg27.IsWhole)
    (x0 : Vec F S1x256x1024 .f32) (x1 : Vec F S1x16x1024 .f32) (x2 : Vec F S1x16x1024 .f32) (x3 : Vec F S1x1x1024 .f32) (x4 : Vec F S1x1x1024 .f32) (x5 : Vec F S1x1024 .f32) (x6 : Vec F S1024x8704 .bf16) (x7 : Vec F S1x256 .f32) (x8 : Vec F S1x256 .f32) (x9 : Vec F S256x256 .bf16) (x10 : Vec F S2048x128 .f32) (x11 : Vec F S2048x128 .f32) (x12 : Vec F S2048x128 .f32) (x13 : Vec F S3x1024 .f32) (x14 : Vec F S1x1024 .f32) (x15 : Vec F S1024x1024 .bf16) (x16 : Vec F S2x1024 .f32) : Vec F S1x4x128x256 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.1)

/-- The run's pieces for output 19 tile its block (4 stores of `S1x1x256x128`, checked by the kernel's evaluation: Lib/Ring.lean `Piece.tiledL`, linear in the pieces, through a loop's `@[irreducible]` trip theorem too), so they cover it. -/
theorem cover0_A_19 (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8704 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S2x1024 .f32) (harg18 : arg18.IsWhole) (arg19 : Memref sig .tc .vmem S1x256x1024 .bf16) (harg19 : arg19.IsWhole) (arg20 : Memref sig .tc .vmem S1x4x128x256 .bf16) (harg20 : arg20.IsWhole) (arg21 : Memref sig .tc .vmem S1x4x256x128 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .f32) (harg24 : arg24.IsWhole) (arg25 : Memref sig .tc .vmem S288x1024 .bf16) (harg25 : arg25.IsWhole) (arg26 : Memref sig .tc .vmem S288x256 .f32) (harg26 : arg26.IsWhole) (arg27 : Memref sig .tc .vmem S256x1024 .bf16) (harg27 : arg27.IsWhole)
    (x0 : Vec F S1x256x1024 .f32) (x1 : Vec F S1x16x1024 .f32) (x2 : Vec F S1x16x1024 .f32) (x3 : Vec F S1x1x1024 .f32) (x4 : Vec F S1x1x1024 .f32) (x5 : Vec F S1x1024 .f32) (x6 : Vec F S1024x8704 .bf16) (x7 : Vec F S1x256 .f32) (x8 : Vec F S1x256 .f32) (x9 : Vec F S256x256 .bf16) (x10 : Vec F S2048x128 .f32) (x11 : Vec F S2048x128 .f32) (x12 : Vec F S2048x128 .f32) (x13 : Vec F S3x1024 .f32) (x14 : Vec F S1x1024 .f32) (x15 : Vec F S1024x1024 .bf16) (x16 : Vec F S2x1024 .f32) (y : S1x4x256x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.1 S1x1x256x128.size (by sl_kernel_rfl) y

/-- What the run leaves in output 19's staging buffer: its pieces read back over junk. -/
def out0_A_19 (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8704 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S2x1024 .f32) (harg18 : arg18.IsWhole) (arg19 : Memref sig .tc .vmem S1x256x1024 .bf16) (harg19 : arg19.IsWhole) (arg20 : Memref sig .tc .vmem S1x4x128x256 .bf16) (harg20 : arg20.IsWhole) (arg21 : Memref sig .tc .vmem S1x4x256x128 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .f32) (harg24 : arg24.IsWhole) (arg25 : Memref sig .tc .vmem S288x1024 .bf16) (harg25 : arg25.IsWhole) (arg26 : Memref sig .tc .vmem S288x256 .f32) (harg26 : arg26.IsWhole) (arg27 : Memref sig .tc .vmem S256x1024 .bf16) (harg27 : arg27.IsWhole)
    (x0 : Vec F S1x256x1024 .f32) (x1 : Vec F S1x16x1024 .f32) (x2 : Vec F S1x16x1024 .f32) (x3 : Vec F S1x1x1024 .f32) (x4 : Vec F S1x1x1024 .f32) (x5 : Vec F S1x1024 .f32) (x6 : Vec F S1024x8704 .bf16) (x7 : Vec F S1x256 .f32) (x8 : Vec F S1x256 .f32) (x9 : Vec F S256x256 .bf16) (x10 : Vec F S2048x128 .f32) (x11 : Vec F S2048x128 .f32) (x12 : Vec F S2048x128 .f32) (x13 : Vec F S3x1024 .f32) (x14 : Vec F S1x1024 .f32) (x15 : Vec F S1024x1024 .bf16) (x16 : Vec F S2x1024 .f32) : Vec F S1x4x256x128 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.1)

/-- The run's pieces for output 20 tile its block (4 stores of `S1x256x256`, checked by the kernel's evaluation: Lib/Ring.lean `Piece.tiledL`, linear in the pieces, through a loop's `@[irreducible]` trip theorem too), so they cover it. -/
theorem cover0_A_20 (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8704 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S2x1024 .f32) (harg18 : arg18.IsWhole) (arg19 : Memref sig .tc .vmem S1x256x1024 .bf16) (harg19 : arg19.IsWhole) (arg20 : Memref sig .tc .vmem S1x4x128x256 .bf16) (harg20 : arg20.IsWhole) (arg21 : Memref sig .tc .vmem S1x4x256x128 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .f32) (harg24 : arg24.IsWhole) (arg25 : Memref sig .tc .vmem S288x1024 .bf16) (harg25 : arg25.IsWhole) (arg26 : Memref sig .tc .vmem S288x256 .f32) (harg26 : arg26.IsWhole) (arg27 : Memref sig .tc .vmem S256x1024 .bf16) (harg27 : arg27.IsWhole)
    (x0 : Vec F S1x256x1024 .f32) (x1 : Vec F S1x16x1024 .f32) (x2 : Vec F S1x16x1024 .f32) (x3 : Vec F S1x1x1024 .f32) (x4 : Vec F S1x1x1024 .f32) (x5 : Vec F S1x1024 .f32) (x6 : Vec F S1024x8704 .bf16) (x7 : Vec F S1x256 .f32) (x8 : Vec F S1x256 .f32) (x9 : Vec F S256x256 .bf16) (x10 : Vec F S2048x128 .f32) (x11 : Vec F S2048x128 .f32) (x12 : Vec F S2048x128 .f32) (x13 : Vec F S3x1024 .f32) (x14 : Vec F S1x1024 .f32) (x15 : Vec F S1024x1024 .bf16) (x16 : Vec F S2x1024 .f32) (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.1 S1x256x256.size (by sl_kernel_rfl) y

/-- What the run leaves in output 20's staging buffer: its pieces read back over junk. -/
def out0_A_20 (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8704 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S2x1024 .f32) (harg18 : arg18.IsWhole) (arg19 : Memref sig .tc .vmem S1x256x1024 .bf16) (harg19 : arg19.IsWhole) (arg20 : Memref sig .tc .vmem S1x4x128x256 .bf16) (harg20 : arg20.IsWhole) (arg21 : Memref sig .tc .vmem S1x4x256x128 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .f32) (harg24 : arg24.IsWhole) (arg25 : Memref sig .tc .vmem S288x1024 .bf16) (harg25 : arg25.IsWhole) (arg26 : Memref sig .tc .vmem S288x256 .f32) (harg26 : arg26.IsWhole) (arg27 : Memref sig .tc .vmem S256x1024 .bf16) (harg27 : arg27.IsWhole)
    (x0 : Vec F S1x256x1024 .f32) (x1 : Vec F S1x16x1024 .f32) (x2 : Vec F S1x16x1024 .f32) (x3 : Vec F S1x1x1024 .f32) (x4 : Vec F S1x1x1024 .f32) (x5 : Vec F S1x1024 .f32) (x6 : Vec F S1024x8704 .bf16) (x7 : Vec F S1x256 .f32) (x8 : Vec F S1x256 .f32) (x9 : Vec F S256x256 .bf16) (x10 : Vec F S2048x128 .f32) (x11 : Vec F S2048x128 .f32) (x12 : Vec F S2048x128 .f32) (x13 : Vec F S3x1024 .f32) (x14 : Vec F S1x1024 .f32) (x15 : Vec F S1024x1024 .bf16) (x16 : Vec F S2x1024 .f32) : Vec F S1x256x1024 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.1)

/-- The run's pieces for output 21 tile its block (4 stores of `S1x256x256`, checked by the kernel's evaluation: Lib/Ring.lean `Piece.tiledL`, linear in the pieces, through a loop's `@[irreducible]` trip theorem too), so they cover it. -/
theorem cover0_A_21 (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8704 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S2x1024 .f32) (harg18 : arg18.IsWhole) (arg19 : Memref sig .tc .vmem S1x256x1024 .bf16) (harg19 : arg19.IsWhole) (arg20 : Memref sig .tc .vmem S1x4x128x256 .bf16) (harg20 : arg20.IsWhole) (arg21 : Memref sig .tc .vmem S1x4x256x128 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .f32) (harg24 : arg24.IsWhole) (arg25 : Memref sig .tc .vmem S288x1024 .bf16) (harg25 : arg25.IsWhole) (arg26 : Memref sig .tc .vmem S288x256 .f32) (harg26 : arg26.IsWhole) (arg27 : Memref sig .tc .vmem S256x1024 .bf16) (harg27 : arg27.IsWhole)
    (x0 : Vec F S1x256x1024 .f32) (x1 : Vec F S1x16x1024 .f32) (x2 : Vec F S1x16x1024 .f32) (x3 : Vec F S1x1x1024 .f32) (x4 : Vec F S1x1x1024 .f32) (x5 : Vec F S1x1024 .f32) (x6 : Vec F S1024x8704 .bf16) (x7 : Vec F S1x256 .f32) (x8 : Vec F S1x256 .f32) (x9 : Vec F S256x256 .bf16) (x10 : Vec F S2048x128 .f32) (x11 : Vec F S2048x128 .f32) (x12 : Vec F S2048x128 .f32) (x13 : Vec F S3x1024 .f32) (x14 : Vec F S1x1024 .f32) (x15 : Vec F S1024x1024 .bf16) (x16 : Vec F S2x1024 .f32) (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.1 S1x256x256.size (by sl_kernel_rfl) y

/-- What the run leaves in output 21's staging buffer: its pieces read back over junk. -/
def out0_A_21 (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8704 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S2x1024 .f32) (harg18 : arg18.IsWhole) (arg19 : Memref sig .tc .vmem S1x256x1024 .bf16) (harg19 : arg19.IsWhole) (arg20 : Memref sig .tc .vmem S1x4x128x256 .bf16) (harg20 : arg20.IsWhole) (arg21 : Memref sig .tc .vmem S1x4x256x128 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .f32) (harg24 : arg24.IsWhole) (arg25 : Memref sig .tc .vmem S288x1024 .bf16) (harg25 : arg25.IsWhole) (arg26 : Memref sig .tc .vmem S288x256 .f32) (harg26 : arg26.IsWhole) (arg27 : Memref sig .tc .vmem S256x1024 .bf16) (harg27 : arg27.IsWhole)
    (x0 : Vec F S1x256x1024 .f32) (x1 : Vec F S1x16x1024 .f32) (x2 : Vec F S1x16x1024 .f32) (x3 : Vec F S1x1x1024 .f32) (x4 : Vec F S1x1x1024 .f32) (x5 : Vec F S1x1024 .f32) (x6 : Vec F S1024x8704 .bf16) (x7 : Vec F S1x256 .f32) (x8 : Vec F S1x256 .f32) (x9 : Vec F S256x256 .bf16) (x10 : Vec F S2048x128 .f32) (x11 : Vec F S2048x128 .f32) (x12 : Vec F S2048x128 .f32) (x13 : Vec F S3x1024 .f32) (x14 : Vec F S1x1024 .f32) (x15 : Vec F S1024x1024 .bf16) (x16 : Vec F S2x1024 .f32) : Vec F S1x256x1024 .bf16 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.1)

/-- The run's pieces for output 22 tile its block (4 stores of `S1x256x256`, checked by the kernel's evaluation: Lib/Ring.lean `Piece.tiledL`, linear in the pieces, through a loop's `@[irreducible]` trip theorem too), so they cover it. -/
theorem cover0_A_22 (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8704 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S2x1024 .f32) (harg18 : arg18.IsWhole) (arg19 : Memref sig .tc .vmem S1x256x1024 .bf16) (harg19 : arg19.IsWhole) (arg20 : Memref sig .tc .vmem S1x4x128x256 .bf16) (harg20 : arg20.IsWhole) (arg21 : Memref sig .tc .vmem S1x4x256x128 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .f32) (harg24 : arg24.IsWhole) (arg25 : Memref sig .tc .vmem S288x1024 .bf16) (harg25 : arg25.IsWhole) (arg26 : Memref sig .tc .vmem S288x256 .f32) (harg26 : arg26.IsWhole) (arg27 : Memref sig .tc .vmem S256x1024 .bf16) (harg27 : arg27.IsWhole)
    (x0 : Vec F S1x256x1024 .f32) (x1 : Vec F S1x16x1024 .f32) (x2 : Vec F S1x16x1024 .f32) (x3 : Vec F S1x1x1024 .f32) (x4 : Vec F S1x1x1024 .f32) (x5 : Vec F S1x1024 .f32) (x6 : Vec F S1024x8704 .bf16) (x7 : Vec F S1x256 .f32) (x8 : Vec F S1x256 .f32) (x9 : Vec F S256x256 .bf16) (x10 : Vec F S2048x128 .f32) (x11 : Vec F S2048x128 .f32) (x12 : Vec F S2048x128 .f32) (x13 : Vec F S3x1024 .f32) (x14 : Vec F S1x1024 .f32) (x15 : Vec F S1024x1024 .bf16) (x16 : Vec F S2x1024 .f32) (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.1 S1x256x256.size (by sl_kernel_rfl) y

/-- What the run leaves in output 22's staging buffer: its pieces read back over junk. -/
def out0_A_22 (c : Dev nD) (i : grid0.Coords) (arg2 : Memref sig .tc .vmem S1x256x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8704 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S2x1024 .f32) (harg18 : arg18.IsWhole) (arg19 : Memref sig .tc .vmem S1x256x1024 .bf16) (harg19 : arg19.IsWhole) (arg20 : Memref sig .tc .vmem S1x4x128x256 .bf16) (harg20 : arg20.IsWhole) (arg21 : Memref sig .tc .vmem S1x4x256x128 .bf16) (harg21 : arg21.IsWhole) (arg22 : Memref sig .tc .vmem S1x256x1024 .bf16) (harg22 : arg22.IsWhole) (arg23 : Memref sig .tc .vmem S1x256x1024 .bf16) (harg23 : arg23.IsWhole) (arg24 : Memref sig .tc .vmem S1x256x1024 .f32) (harg24 : arg24.IsWhole) (arg25 : Memref sig .tc .vmem S288x1024 .bf16) (harg25 : arg25.IsWhole) (arg26 : Memref sig .tc .vmem S288x256 .f32) (harg26 : arg26.IsWhole) (arg27 : Memref sig .tc .vmem S256x1024 .bf16) (harg27 : arg27.IsWhole)
    (x0 : Vec F S1x256x1024 .f32) (x1 : Vec F S1x16x1024 .f32) (x2 : Vec F S1x16x1024 .f32) (x3 : Vec F S1x1x1024 .f32) (x4 : Vec F S1x1x1024 .f32) (x5 : Vec F S1x1024 .f32) (x6 : Vec F S1024x8704 .bf16) (x7 : Vec F S1x256 .f32) (x8 : Vec F S1x256 .f32) (x9 : Vec F S256x256 .bf16) (x10 : Vec F S2048x128 .f32) (x11 : Vec F S2048x128 .f32) (x12 : Vec F S2048x128 .f32) (x13 : Vec F S3x1024 .f32) (x14 : Vec F S1x1024 .f32) (x15 : Vec F S1024x1024 .bf16) (x16 : Vec F S2x1024 .f32) : Vec F S1x256x1024 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x256x1024 .bf16 × Vec F S1x4x128x256 .bf16 × Vec F S1x4x256x128 .bf16 × Vec F S1x256x1024 .bf16 × Vec F S1x256x1024 .bf16 × Vec F S1x256x1024 .f32 :=
  (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t).1
    | ⟨18, _⟩ => (outsAt0 m c t).2.1
    | ⟨19, _⟩ => (outsAt0 m c t).2.2.1
    | ⟨20, _⟩ => (outsAt0 m c t).2.2.2.1
    | ⟨21, _⟩ => (outsAt0 m c t).2.2.2.2.1
    | ⟨22, _⟩ => (outsAt0 m c t).2.2.2.2.2
    | ⟨_ + 23, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t).1 := by dsimp only [dats]
theorem after0_18 (c : Dev nD) (t : Fin cfg0.N) : (dats m 0 c).after 18 t = (outsAt0 m c t).2.1 := by dsimp only [dats]
theorem after0_19 (c : Dev nD) (t : Fin cfg0.N) : (dats m 0 c).after 19 t = (outsAt0 m c t).2.2.1 := by dsimp only [dats]
theorem after0_20 (c : Dev nD) (t : Fin cfg0.N) : (dats m 0 c).after 20 t = (outsAt0 m c t).2.2.2.1 := by dsimp only [dats]
theorem after0_21 (c : Dev nD) (t : Fin cfg0.N) : (dats m 0 c).after 21 t = (outsAt0 m c t).2.2.2.2.1 := by dsimp only [dats]
theorem after0_22 (c : Dev nD) (t : Fin cfg0.N) : (dats m 0 c).after 22 t = (outsAt0 m c t).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  unfold outsAt0
  unfold out0_A_17 out0_A_18 out0_A_19 out0_A_20 out0_A_21 out0_A_22; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  isplitl [HS1]; · iexact HS1
  isplitl [HS2]; · iexact HS2
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_ProjectionIdeal`'s statement (Defs.lean) at any `F` — Proof.lean cites it at `Bits`:
    `theorem Cert.Proof.claim : Cert.Claim := ⟨Cert.ProjectionIdeal.Gen.facts, fun m ρ _ => Cert.ProjectionIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.ProjectionIdeal.Gen

end
-- ==== Proof.ProjValue.lean ====
/-
  The projection's results after the run, and the blocks its windows read.
-/
module

public import proofs.«01_k».proof.Proof.ProjFrame
public import Idealize.ShloMosaic.Lib.Pipeline.Value

@[expose] public section

noncomputable section

namespace Cert.ProjectionIdeal.Value

open Cert.ProjectionIdeal Cert.ProjectionIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 17's array: the run's contents for that window after the body (`Gen.outsAt0`: its component 0), read through the window's block. -/
theorem flushed17 (c : Dev nD) (t : Fin cfg0.N) :
    (dats m 0 c).flushed 17 t = (cfg0.win 17).cut (grid0.coords t) ((outsAt0 m c t).1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — the kernel's one case, `Gen.outsAt0` by definition. -/
theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed17, outsAt0]

/-- The index map sends distinct grid points to distinct block indices (decided over the 64 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S8x2048x1024.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`Gen.outsAt0`: its component 1), read through the window's block. -/
theorem flushed18 (c : Dev nD) (t : Fin cfg0.N) :
    (dats m 0 c).flushed 18 t = (cfg0.win 18).cut (grid0.coords t) ((outsAt0 m c t).2.1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed18, outsAt0]

/-- The index map sends distinct grid points to distinct block indices (decided over the 64 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S8x4x128x2048.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 2), read through the window's block. -/
theorem flushed19 (c : Dev nD) (t : Fin cfg0.N) :
    (dats m 0 c).flushed 19 t = (cfg0.win 19).cut (grid0.coords t) ((outsAt0 m c t).2.2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed19, outsAt0]

/-- The index map sends distinct grid points to distinct block indices (decided over the 64 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S8x4x2048x128.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 3), read through the window's block. -/
theorem flushed20 (c : Dev nD) (t : Fin cfg0.N) :
    (dats m 0 c).flushed 20 t = (cfg0.win 20).cut (grid0.coords t) ((outsAt0 m c t).2.2.2.1) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed20, outsAt0]

/-- The index map sends distinct grid points to distinct block indices (decided over the 64 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S8x2048x1024.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the run's contents for that window after the body (`Gen.outsAt0`: its component 4), read through the window's block. -/
theorem flushed21 (c : Dev nD) (t : Fin cfg0.N) :
    (dats m 0 c).flushed 21 t = (cfg0.win 21).cut (grid0.coords t) ((outsAt0 m c t).2.2.2.2.1) := by
  show (cfg0.win 21).cut (grid0.coords t) ((dats m 0 c).after 21 t) = _
  rw [after0_21]

/-- … so at a point where case A runs, what its write-back would write is that case's NAMED TERM for the window (`Gen.out0_A_21`: the pieces
    its run found, read back) at the point's memrefs and input blocks, and for an output the case reads back what the point before left (`Gen.outsAt0` at `t - 1`) — the kernel's one case, `Gen.outsAt0` by definition. -/
theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed21, outsAt0]

/-- The index map sends distinct grid points to distinct block indices (decided over the 64 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S8x2048x1024.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the run's contents for that window after the body (`Gen.outsAt0`: its component 5), read through the window's block. -/
theorem flushed22 (c : Dev nD) (t : Fin cfg0.N) :
    (dats m 0 c).flushed 22 t = (cfg0.win 22).cut (grid0.coords t) ((outsAt0 m c t).2.2.2.2.2) := by
  show (cfg0.win 22).cut (grid0.coords t) ((dats m 0 c).after 22 t) = _
  rw [after0_22]

/-- … so at a point where case A runs, what its write-back would write is that case's NAMED TERM for the window (`Gen.out0_A_22`: the pieces
    its run found, read back) at the point's memrefs and input blocks, and for an output the case reads back what the point before left (`Gen.outsAt0` at `t - 1`) — the kernel's one case, `Gen.outsAt0` by definition. -/
theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed22, outsAt0]

/-- The index map sends distinct grid points to distinct block indices (decided over the 64 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S8x2048x1024.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v24_0) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v24_1) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v24_2) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v24_3) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v24_4) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v24_5) = (dats m 0 c).arrAt 22 cfg0.N :=
  (h c).1 22

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: input window 13 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 13).trans (((dats m 0 c).arrAt_in 13 rfl _).trans ((A_eq m c 13).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: input window 16 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 16).trans (((dats m 0 c).arrAt_in 16 rfl _).trans ((A_eq m c 16).trans (V_main_arg11 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v24_0) = (dats m 0 c).arrAt 17 cfg0.N
      ∧ r.2.mem ((c : Thread nD τ).loc main_v24_1) = (dats m 0 c).arrAt 18 cfg0.N
      ∧ r.2.mem ((c : Thread nD τ).loc main_v24_2) = (dats m 0 c).arrAt 19 cfg0.N
      ∧ r.2.mem ((c : Thread nD τ).loc main_v24_3) = (dats m 0 c).arrAt 20 cfg0.N
      ∧ r.2.mem ((c : Thread nD τ).loc main_v24_4) = (dats m 0 c).arrAt 21 cfg0.N
      ∧ r.2.mem ((c : Thread nD τ).loc main_v24_5) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.ProjectionIdeal.Value

end
-- ==== Proof.ProjAt.lean ====
/-
  The tiles of one grid point: those formulas at the point's blocks.
-/
module

public import proofs.«01_k».proof.Proof.ProjTile
public import proofs.«01_k».proof.Proof.ProjValue

@[expose] public section

noncomputable section

namespace Cert.Proj

open Idealize.ShloMosaic Cert.ProjectionIdeal Cert.ProjectionIdeal.Gen Cert.Layer Cert.ProjLayer

variable (m : (ℓ : Loc nD τ sig) → Buf (Elt Ideal) ℓ) (c : Dev nD) (t : Fin cfg0.N)

/-- The block's normed rows. -/
abbrev midAt : FVec Ideal S256x1024 .bf16 := mid (iblk m c 0 t) (iblk m c 3 t) (iblk m c 4 t) (iblk m c 5 t)

/-- The block's rows of a rotation table. -/
abbrev tableAt (x : FVec Ideal S2048x128 .f32) : FVec Ideal S256x128 .f32 :=
  View.ld (Val := Elt Ideal) (e' := .f32) x (Rect.unit (s := S2048x128) (k0_off1 (grid0.coords t)) S256x128.size (k0_off1_inb (grid0.coords t)))

/-- The queries of a grid point. -/
abbrev queryAt : Fin 4 → Fin 256 → Fin 256 → EReal :=
  queryTile (midAt m c t) (iblk m c 6 t) (iblk m c 7 t) (iblk m c 9 t) (tableAt t (iblk m c 10 t)) (tableAt t (iblk m c 11 t)) (tableAt t (iblk m c 12 t))

theorem query_piece_at (j : Fin 4) (r n : Fin 256) :
    k0_pay34 (F := Ideal) (k0_pay33 (F := Ideal) (k0_pay11 (F := Ideal) (midAt m c t) (cols (iblk m c 6 t) (256 * j.val) (by omega))) (iblk m c 7 t) (iblk m c 9 t)
      (tableAt t (iblk m c 10 t)) (tableAt t (iblk m c 11 t)) (tableAt t (iblk m c 12 t))) (ix3 0 r n) = queryAt m c t j r n :=
  query_piece _ _ _ _ _ _ _ j r n

/-- All the rows kept at a grid point. -/
abbrev extAt : FVec Ideal S288x1024 .bf16 := ext (iblk m c 0 t) (iblk m c 1 t) (iblk m c 2 t) (iblk m c 3 t) (iblk m c 4 t) (iblk m c 5 t)

/-- The local branch before its projection, as the scratch holds it. -/
abbrev branchAt : FVec Ideal S256x1024 .bf16 :=
  tiledFlat (e := .bf16) (branchTile (midAt m c t) (iblk m c 6 t) (extAt m c t) (iblk m c 13 t) (iblk m c 14 t) (grid0.coords t 1))

theorem branch_piece_at (j : Fin 4) (r n : Fin 256) :
    k0_pay73 (F := Ideal) (midAt m c t) (k0_pay61 (BitVec.ofNat 32 (grid0.coords t 1).val)) (k0_pay62 (BitVec.ofNat 32 (grid0.coords t 1).val))
      (convPart (iblk m c 6 t) (extAt m c t) j 15 (by omega)) (Scalar.ofBits .f32 0x00000000#32) (convPart (iblk m c 6 t) (extAt m c t) j 17 (by omega)) (tapPart (iblk m c 13 t) 0 j)
      (convPart (iblk m c 6 t) (extAt m c t) j 16 (by omega)) (tapPart (iblk m c 13 t) 1 j) (tapPart (iblk m c 13 t) 2 j) (convBiasPart (iblk m c 14 t) j)
      (cols (iblk m c 6 t) (3584 + 256 * j.val) (by omega)) (cols (iblk m c 6 t) (5632 + 256 * j.val) (by omega)) (ix2 r n)
      = branchTile (midAt m c t) (iblk m c 6 t) (extAt m c t) (iblk m c 13 t) (iblk m c 14 t) (grid0.coords t 1) j r n :=
  branch_piece _ _ _ _ _ (grid0.coords t 1) j r n

theorem zero_off : ∀ a, (![0, 0] : Fin S288x256.rank → ℕ) a = 0 := by decide

end Cert.Proj
-- ==== Proof.ProjOnes.lean ====
/-
  The constant matrix of ones, 65536 words row after row: entry (k, n) is the word for one where k and n are lanes of the same head, and zero elsewhere.
-/
module

public import proofs.«01_k».proof.ProjectionIdeal
public import Mathlib.Tactic.FinCases

@[expose] public section

namespace Cert.Proj

open Cert.ProjectionIdeal

/-- The three kinds of half a row: ones in its first head, ones in its second, none. -/
theorem half_first (i : ℕ) (b : Fin 128) (h : i % 128 = b.val) : lit0t0_0 i = if b.val < 64 then 0x3F80#16 else 0x0000#16 := by
  unfold lit0t0_0
  rw [h]
  fin_cases b <;> rfl

theorem half_second (i : ℕ) (b : Fin 128) (h : i % 128 = b.val) : lit0t0_128 i = if b.val < 64 then 0x0000#16 else 0x3F80#16 := by
  unfold lit0t0_128
  rw [h]
  fin_cases b <;> rfl

theorem half_none (i : ℕ) (b : Fin 128) (h : i % 128 = b.val) : lit0t0_1 i = 0x0000#16 := by
  unfold lit0t0_1
  rw [h]
  fin_cases b <;> rfl

/-- The rows of one head: all alike. -/
theorem rows_0 (i : ℕ) (b : Fin 128) (h : i / 128 % 128 = b.val) : lit0t1_0 i = if b.val % 2 = 0 then lit0t0_0 i else lit0t0_1 i := by
  unfold lit0t1_0
  rw [h]
  fin_cases b <;> rfl

theorem rows_1 (i : ℕ) (b : Fin 128) (h : i / 128 % 128 = b.val) : lit0t1_1 i = if b.val % 2 = 0 then lit0t0_128 i else lit0t0_1 i := by
  unfold lit0t1_1
  rw [h]
  fin_cases b <;> rfl

theorem rows_2 (i : ℕ) (b : Fin 128) (h : i / 128 % 128 = b.val) : lit0t1_2 i = if b.val % 2 = 0 then lit0t0_1 i else lit0t0_0 i := by
  unfold lit0t1_2
  rw [h]
  fin_cases b <;> rfl

theorem rows_3 (i : ℕ) (b : Fin 128) (h : i / 128 % 128 = b.val) : lit0t1_3 i = if b.val % 2 = 0 then lit0t0_1 i else lit0t0_128 i := by
  unfold lit0t1_3
  rw [h]
  fin_cases b <;> rfl

theorem ones_word (k n : Fin 256) (i : ℕ) (h : i = k.val * 256 + n.val) : lit0t i = if k.val / 64 = n.val / 64 then 0x3F80#16 else 0x0000#16 := by
  have hk := k.isLt
  have hn := n.isLt
  have hm : i / 128 % 128 < 128 := Nat.mod_lt _ (by decide)
  have hl : i % 128 < 128 := Nat.mod_lt _ (by decide)
  have hf := half_first i (Fin.mk (i % 128) hl) rfl
  have hs := half_second i (Fin.mk (i % 128) hl) rfl
  have hz := half_none i (Fin.mk (i % 128) hl) rfl
  have h0 := rows_0 i (Fin.mk (i / 128 % 128) hm) rfl
  have h1 := rows_1 i (Fin.mk (i / 128 % 128) hm) rfl
  have h2 := rows_2 i (Fin.mk (i / 128 % 128) hm) rfl
  have h3 := rows_3 i (Fin.mk (i / 128 % 128) hm) rfl
  rw [hf, hz] at h0 h2
  rw [hs, hz] at h1 h3
  simp only at h0 h1 h2 h3
  have ha : i / 16384 = 0 ∨ i / 16384 = 1 ∨ i / 16384 = 2 ∨ i / 16384 = 3 := by omega
  unfold lit0t
  rcases ha with ha | ha | ha | ha <;> rw [ha]
  · refine h0.trans ?_
    split_ifs <;> first | rfl | (exfalso; omega)
  · refine h1.trans ?_
    split_ifs <;> first | rfl | (exfalso; omega)
  · refine h2.trans ?_
    split_ifs <;> first | rfl | (exfalso; omega)
  · refine h3.trans ?_
    split_ifs <;> first | rfl | (exfalso; omega)

end Cert.Proj
-- ==== Proof.ProjPrep.lean ====
/-
  The arrays the projection program prepares on the host, at an entry: the gains once per head, the matrix of ones that sums a head's lanes,
  the rotation tables with their zeros and signs, and arrays only reshaped or cast.
-/
module

public import proofs.«01_k».proof.Proof.Gen.ProjectionIdeal.Frame.Runs
public import proofs.«01_k».proof.Proof.ProjLayer
public import proofs.«01_k».proof.Proof.ProjOnes
public import Idealize.ShloMosaic.Lib.IdealHost
public import Idealize.ShloMosaic.Lib.Pointwise
public import Idealize.ShloMosaic.Lib.StableHlo.Run

@[expose] public section

noncomputable section

namespace Cert.Proj

open Idealize.ShloMosaic Idealize.ShloMosaic.TcCoe Cert.ProjectionIdeal Cert.ProjectionIdeal.Gen Cert.Layer Cert.ProjLayer

variable (m : (ℓ : Loc nD τ sig) → Buf (Elt Ideal) ℓ) (c : Dev nD)

/-- The arguments: tokens, modulation, norm gain, weights, query and key gains, the cosines and sines, the convolution's weights and bias, its projection, the gates' biases. -/
abbrev argX : Arr3 8 2048 1024 := m ((c : Thread nD τ).loc main_arg0)
abbrev argMod : Arr3 16 1 3072 := m ((c : Thread nD τ).loc main_arg1)
abbrev argNorm : Arr1 1024 := m ((c : Thread nD τ).loc main_arg2)
abbrev argW : Arr2 1024 8704 := m ((c : Thread nD τ).loc main_arg3)
abbrev argQg : Arr1 64 := m ((c : Thread nD τ).loc main_arg4)
abbrev argKg : Arr1 64 := m ((c : Thread nD τ).loc main_arg5)
abbrev argCos : Arr2 2048 64 := m ((c : Thread nD τ).loc main_arg6)
abbrev argSin : Arr2 2048 64 := m ((c : Thread nD τ).loc main_arg7)
abbrev argCw : Arr2 3 1024 := m ((c : Thread nD τ).loc main_arg8)
abbrev argCb : Arr1 1024 := m ((c : Thread nD τ).loc main_arg9)
abbrev argWcb : Arr2 1024 1024 := m ((c : Thread nD τ).loc main_arg10)
abbrev argBg : Arr2 2 1024 := m ((c : Thread nD τ).loc main_arg11)

theorem norm_prep (e : Fin 1024) : V m c main_v0 (ix2 0 e) = argNorm m c (ix1 e) := by
  have h : V m c main_v0 = shapeCast S1x1024 (argNorm m c) shapeCasts_S1024_S1x1024 := by
    show StableHlo.after hostOps0 _ (Proc.devRef .tc main_v0) = _
    simp only [hostOps0, List.flatten_cons, List.flatten_nil, List.append_nil, List.cons_append, List.nil_append]
    after_results
    rfl
  rw [h]
  generalize argNorm m c = x
  pointwise

theorem convBias_prep (e : Fin 1024) : V m c main_v9 (ix2 0 e) = argCb m c (ix1 e) := by
  have h : V m c main_v9 = shapeCast S1x1024 (argCb m c) shapeCasts_S1024_S1x1024 := by
    show StableHlo.after hostOps0 _ (Proc.devRef .tc main_v9) = _
    simp only [hostOps0, List.flatten_cons, List.flatten_nil, List.append_nil, List.cons_append, List.nil_append]
    after_results
    rfl
  rw [h]
  generalize argCb m c = x
  pointwise

theorem weights_prep (i : S1024x8704.Idx) : V m c main_v10 i = argW m c i := by
  have h : V m c main_v10 = (truncf .bf16 (argW m c : FVec Ideal S1024x8704 .f32) bitsLt_bf16_f32 : FVec Ideal S1024x8704 .bf16) := by
    show StableHlo.after hostOps0 _ (Proc.devRef .tc main_v10) = _
    simp only [hostOps0, List.flatten_cons, List.flatten_nil, List.append_nil, List.cons_append, List.nil_append]
    after_results
  rw [h]
  rfl

theorem merge_prep (i : S1024x1024.Idx) : V m c main_v23 i = argWcb m c i := by
  have h : V m c main_v23 = (truncf .bf16 (argWcb m c : FVec Ideal S1024x1024 .f32) bitsLt_bf16_f32 : FVec Ideal S1024x1024 .bf16) := by
    show StableHlo.after hostOps0 _ (Proc.devRef .tc main_v23) = _
    simp only [hostOps0, List.flatten_cons, List.flatten_nil, List.append_nil, List.cons_append, List.nil_append]
    after_results
  rw [h]
  rfl

/-- A gain laid out four times: lane `n` is dimension `n % 64`. -/
theorem gain_read (x : FVec Ideal S64 .f32) (n : Fin 256) :
    shapeCast S1x256 (shapeCast S256 (broadcastInDim S4x64 ![0, 1] bcast_S1x64_S4x64_0_1 (shapeCast S1x64 x shapeCasts_S64_S1x64)) shapeCasts_S4x64_S256) shapeCasts_S256_S1x256 (ix2 0 n)
      = x (ix1 ⟨n.val % 64, by omega⟩) := by
  have hn := n.isLt
  pointwise

theorem queryGain_prep (n : Fin 256) : V m c main_v4 (ix2 0 n) = argQg m c (ix1 ⟨n.val % 64, by omega⟩) := by
  have h : V m c main_v4 = shapeCast S1x256 (shapeCast S256 (broadcastInDim S4x64 ![0, 1] bcast_S1x64_S4x64_0_1 (shapeCast S1x64 (argQg m c) shapeCasts_S64_S1x64)) shapeCasts_S4x64_S256) shapeCasts_S256_S1x256 := by
    show StableHlo.after hostOps0 _ (Proc.devRef .tc main_v4) = _
    simp only [hostOps0, List.flatten_cons, List.flatten_nil, List.append_nil, List.cons_append, List.nil_append]
    after_results
    rfl
  rw [h]
  exact gain_read _ n

theorem keyGain_prep (n : Fin 256) : V m c main_v8 (ix2 0 n) = argKg m c (ix1 ⟨n.val % 64, by omega⟩) := by
  have h : V m c main_v8 = shapeCast S1x256 (shapeCast S256 (broadcastInDim S4x64 ![0, 1] bcast_S1x64_S4x64_0_1 (shapeCast S1x64 (argKg m c) shapeCasts_S64_S1x64)) shapeCasts_S4x64_S256) shapeCasts_S256_S1x256 := by
    show StableHlo.after hostOps0 _ (Proc.devRef .tc main_v8) = _
    simp only [hostOps0, List.flatten_cons, List.flatten_nil, List.append_nil, List.cons_append, List.nil_append]
    after_results
    rfl
  rw [h]
  exact gain_read _ n

/-- The matrix of ones: lanes of the same head meet. -/
theorem ones_prep (k n : Fin 256) : V m c main_cst (ix2 k n) = if k.val / 64 = n.val / 64 then (1 : EReal) else 0 := by
  have h : V m c main_cst = (fun i => FloatOps.ofBits .bf16 (lit0 (S256x256.rowMajor i)) : FVec Ideal S256x256 .bf16) := by
    show StableHlo.after hostOps0 _ (Proc.devRef .tc main_cst) = _
    simp only [hostOps0, List.flatten_cons, List.flatten_nil, List.append_nil, List.cons_append, List.nil_append]
    after_results
    rfl
  rw [h]
  have e : lit0 (S256x256.rowMajor (ix2 k n)) = if k.val / 64 = n.val / 64 then 0x3F80#16 else 0x0000#16 :=
    ones_word k n _ (Shape.rowMajor_val_two _)
  show Ideal.ofBits .bf16 (lit0 (S256x256.rowMajor (ix2 k n))) = _
  rw [e]
  split_ifs
  · exact Ideal.ofBits_one_bf16
  · exact Ideal.ofBits_zero_bf16

theorem cos_prep (i : Fin 2048) (l : Fin 128) : V m c main_v20 (ix2 i l) = argCos m c (ix2 i ⟨l.val % 64, by omega⟩) := by
  have h : V m c main_v20 = concatenate S2048x128 1 [⟨S2048x64, argCos m c⟩, ⟨S2048x64, argCos m c⟩] concatenates_S2048x64_S2048x64_S2048x128_d1 := by
    show StableHlo.after hostOps0 _ (Proc.devRef .tc main_v20) = _
    simp only [hostOps0, List.flatten_cons, List.flatten_nil, List.append_nil, List.cons_append, List.nil_append]
    after_results
  rw [h]
  generalize argCos m c = x
  have hl := l.isLt
  pointwise
  split_ifs
  all_goals exact congrArg (fun z => x (ix2 i z)) (Fin.ext (by (try simp only); omega))

/-- Sixteen zero columns. -/
abbrev blank : FVec Ideal S2048x16 .f32 := broadcastInDim S2048x16 ![] bcast_S_S2048x16 (constant (F := Ideal) S_ .f32 0x00000000#32)

/-- The table for the partner sixteen lanes below: minus the sine on the first half of each rotated block, zero on the second. -/
abbrev loTable (x : FVec Ideal S2048x64 .f32) : FVec Ideal S2048x64 .f32 :=
  concatenate S2048x64 1 [⟨S2048x16, Host.negf (F := Ideal) (extractStridedSlice S2048x16 ![0, 0] x slices_S2048x64_S2048x16_0_0)⟩, ⟨S2048x16, blank⟩,
    ⟨S2048x16, Host.negf (F := Ideal) (extractStridedSlice S2048x16 ![0, 32] x slices_S2048x64_S2048x16_0_32)⟩, ⟨S2048x16, blank⟩]
    concatenates_S2048x16_S2048x16_S2048x16_S2048x16_S2048x64_d1

/-- The table for the partner sixteen lanes above: zero on the first half, the sine on the second. -/
abbrev hiTable (x : FVec Ideal S2048x64 .f32) : FVec Ideal S2048x64 .f32 :=
  concatenate S2048x64 1 [⟨S2048x16, blank⟩, ⟨S2048x16, extractStridedSlice S2048x16 ![0, 16] x slices_S2048x64_S2048x16_0_16⟩, ⟨S2048x16, blank⟩,
    ⟨S2048x16, extractStridedSlice S2048x16 ![0, 48] x slices_S2048x64_S2048x16_0_48⟩]
    concatenates_S2048x16_S2048x16_S2048x16_S2048x16_S2048x64_d1

theorem lo_read (x : FVec Ideal S2048x64 .f32) (i : Fin 2048) (l : Fin 64) :
    loTable x (ix2 i l) = if l.val % 32 < 16 then -(x (ix2 i l)) else 0 := by
  have hl := l.isLt
  pointwise
  split_ifs
  all_goals
    first
    | rfl
    | (exfalso; omega)
    | (refine Eq.trans (congrArg (fun z => -(x (ix2 i z))) ?_) (if_pos (by omega)).symm; exact Fin.ext (by (try simp only); omega))

theorem hi_read (x : FVec Ideal S2048x64 .f32) (i : Fin 2048) (l : Fin 64) :
    hiTable x (ix2 i l) = if l.val % 32 < 16 then 0 else x (ix2 i l) := by
  have hl := l.isLt
  pointwise
  split_ifs
  all_goals
    first
    | rfl
    | (exfalso; omega)
    | (refine Eq.trans (congrArg (fun z => x (ix2 i z)) ?_) (if_neg (by omega)).symm; exact Fin.ext (by (try simp only); omega))
    | exact congrArg (fun z => x (ix2 i z)) (Fin.ext (by (try simp only); omega))

/-- A table twice side by side. -/
theorem twice_read (x : FVec Ideal S2048x64 .f32) (i : Fin 2048) (l : Fin 128) :
    concatenate S2048x128 1 [⟨S2048x64, x⟩, ⟨S2048x64, x⟩] concatenates_S2048x64_S2048x64_S2048x128_d1 (ix2 i l) = x (ix2 i ⟨l.val % 64, by omega⟩) := by
  have hl := l.isLt
  pointwise
  split_ifs
  all_goals exact congrArg (fun z => x (ix2 i z)) (Fin.ext (by (try simp only); omega))

theorem lo_prep (i : Fin 2048) (l : Fin 128) : V m c main_v21 (ix2 i l) = if l.val % 64 % 32 < 16 then -(argSin m c (ix2 i ⟨l.val % 64, by omega⟩)) else 0 := by
  have h : V m c main_v21 = concatenate S2048x128 1 [⟨S2048x64, loTable (argSin m c)⟩, ⟨S2048x64, loTable (argSin m c)⟩] concatenates_S2048x64_S2048x64_S2048x128_d1 := by
    show StableHlo.after hostOps0 _ (Proc.devRef .tc main_v21) = _
    simp only [hostOps0, List.flatten_cons, List.flatten_nil, List.append_nil, List.cons_append, List.nil_append]
    after_results
    rfl
  rw [h]
  exact (twice_read _ i l).trans (lo_read _ i _)

theorem hi_prep (i : Fin 2048) (l : Fin 128) : V m c main_v22 (ix2 i l) = if l.val % 64 % 32 < 16 then 0 else argSin m c (ix2 i ⟨l.val % 64, by omega⟩) := by
  have h : V m c main_v22 = concatenate S2048x128 1 [⟨S2048x64, hiTable (argSin m c)⟩, ⟨S2048x64, hiTable (argSin m c)⟩] concatenates_S2048x64_S2048x64_S2048x128_d1 := by
    show StableHlo.after hostOps0 _ (Proc.devRef .tc main_v22) = _
    simp only [hostOps0, List.flatten_cons, List.flatten_nil, List.append_nil, List.cons_append, List.nil_append]
    after_results
    rfl
  rw [h]
  exact (twice_read _ i l).trans (hi_read _ i _)

end Cert.Proj
-- ==== Proof.ProjBlocks.lean ====
/-
  The projection kernel's blocks at coordinates: what a grid point's windows hold of the arguments and of the arrays prepared on the host,
  and that the rows it norms and projects are the layer's rows, its own and the neighbours it looks at.
-/
module

public import proofs.«01_k».proof.Proof.ProjAt
public import proofs.«01_k».proof.Proof.ProjPrep

@[expose] public section

noncomputable section

namespace Cert.Proj

open Idealize.ShloMosaic Idealize.ShloMosaic.TcCoe Cert.ProjectionIdeal Cert.ProjectionIdeal.Gen Cert.Layer Cert.ProjLayer

variable (m : (ℓ : Loc nD τ sig) → Buf (Elt Ideal) ℓ) (c : Dev nD)

theorem index_0 : ∀ t : Fin cfg0.N, win0_0.index t = ![(grid0.coords t 0).val, (grid0.coords t 1).val, 0] :=
  (by decide +kernel : ∀ t : Fin grid0.N, _)
theorem index_1 : ∀ t : Fin cfg0.N, win0_1.index t = ![(grid0.coords t 0).val, 16 * (grid0.coords t 1).val - 1, 0] :=
  (by decide +kernel : ∀ t : Fin grid0.N, _)
theorem index_2 : ∀ t : Fin cfg0.N, win0_2.index t = ![(grid0.coords t 0).val, min (16 * ((grid0.coords t 1).val + 1)) 127, 0] :=
  (by decide +kernel : ∀ t : Fin grid0.N, _)
theorem index_3 : ∀ t : Fin cfg0.N, win0_3.index t = ![(grid0.coords t 0).val, 0, 0] :=
  (by decide +kernel : ∀ t : Fin grid0.N, _)
theorem index_4 : ∀ t : Fin cfg0.N, win0_4.index t = ![(grid0.coords t 0).val, 0, 1] :=
  (by decide +kernel : ∀ t : Fin grid0.N, _)
theorem index_5 : ∀ t : Fin cfg0.N, win0_5.index t = ![0, 0] :=
  (by decide +kernel : ∀ t : Fin grid0.N, _)
theorem index_6 : ∀ t : Fin cfg0.N, win0_6.index t = ![0, 0] :=
  (by decide +kernel : ∀ t : Fin grid0.N, _)
theorem index_7 : ∀ t : Fin cfg0.N, win0_7.index t = ![0, 0] :=
  (by decide +kernel : ∀ t : Fin grid0.N, _)
theorem index_8 : ∀ t : Fin cfg0.N, win0_8.index t = ![0, 0] :=
  (by decide +kernel : ∀ t : Fin grid0.N, _)
theorem index_9 : ∀ t : Fin cfg0.N, win0_9.index t = ![0, 0] :=
  (by decide +kernel : ∀ t : Fin grid0.N, _)
theorem index_10 : ∀ t : Fin cfg0.N, win0_10.index t = ![0, 0] :=
  (by decide +kernel : ∀ t : Fin grid0.N, _)
theorem index_11 : ∀ t : Fin cfg0.N, win0_11.index t = ![0, 0] :=
  (by decide +kernel : ∀ t : Fin grid0.N, _)
theorem index_12 : ∀ t : Fin cfg0.N, win0_12.index t = ![0, 0] :=
  (by decide +kernel : ∀ t : Fin grid0.N, _)
theorem index_13 : ∀ t : Fin cfg0.N, win0_13.index t = ![0, 0] :=
  (by decide +kernel : ∀ t : Fin grid0.N, _)
theorem index_14 : ∀ t : Fin cfg0.N, win0_14.index t = ![0, 0] :=
  (by decide +kernel : ∀ t : Fin grid0.N, _)
theorem index_15 : ∀ t : Fin cfg0.N, win0_15.index t = ![0, 0] :=
  (by decide +kernel : ∀ t : Fin grid0.N, _)
theorem index_16 : ∀ t : Fin cfg0.N, win0_16.index t = ![0, 0] :=
  (by decide +kernel : ∀ t : Fin grid0.N, _)
theorem index_17 : ∀ t : Fin cfg0.N, win0_17.index t = ![(grid0.coords t 0).val, (grid0.coords t 1).val, 0] :=
  (by decide +kernel : ∀ t : Fin grid0.N, _)
theorem index_18 : ∀ t : Fin cfg0.N, win0_18.index t = ![(grid0.coords t 0).val, 0, 0, (grid0.coords t 1).val] :=
  (by decide +kernel : ∀ t : Fin grid0.N, _)
theorem index_19 : ∀ t : Fin cfg0.N, win0_19.index t = ![(grid0.coords t 0).val, 0, (grid0.coords t 1).val, 0] :=
  (by decide +kernel : ∀ t : Fin grid0.N, _)
theorem index_20 : ∀ t : Fin cfg0.N, win0_20.index t = ![(grid0.coords t 0).val, (grid0.coords t 1).val, 0] :=
  (by decide +kernel : ∀ t : Fin grid0.N, _)
theorem index_21 : ∀ t : Fin cfg0.N, win0_21.index t = ![(grid0.coords t 0).val, (grid0.coords t 1).val, 0] :=
  (by decide +kernel : ∀ t : Fin grid0.N, _)
theorem index_22 : ∀ t : Fin cfg0.N, win0_22.index t = ![(grid0.coords t 0).val, (grid0.coords t 1).val, 0] :=
  (by decide +kernel : ∀ t : Fin grid0.N, _)

/-- The batch and the row of a block's row `r` at grid point `t`. -/
def batch (t : Fin cfg0.N) : Fin 8 := ⟨(grid0.coords t 0).val, (grid0.coords t 0).isLt⟩
def row (t : Fin cfg0.N) (r : Fin 256) : Fin 2048 := ⟨(grid0.coords t 1).val * 256 + r.val, by have := (grid0.coords t 1).isLt; have : (grid0.coords t 1).val < 8 := this; omega⟩

theorem block_lt (t : Fin cfg0.N) : (grid0.coords t 1).val < 8 := (grid0.coords t 1).isLt

/-! ## The blocks at coordinates -/

theorem x_block (t : Fin cfg0.N) (r : Fin 256) (e : Fin 1024) : iblk m c 0 t (ix3 0 r e) = argX m c (ix3 (batch t) (row t r) e) := by
  blk_simp [iblk, index_0]
  rw [V_main_arg0]
  refine congrArg _ ?_
  blk_ext [index_0, batch, row]

/-- The sixteen rows before the block, where there are such. -/
theorem above_block (t : Fin cfg0.N) (hi : (grid0.coords t 1).val ≠ 0) (e : Fin 1024) :
    iblk m c 1 t (ix3 0 15 e) = argX m c (ix3 (batch t) ⟨(grid0.coords t 1).val * 256 - 1, by have := block_lt t; omega⟩ e) := by
  blk_simp [iblk, index_1]
  rw [V_main_arg0]
  refine congrArg _ ?_
  blk_ext [index_1, batch]

/-- The sixteen rows behind the block, where there are such. -/
theorem below_block (t : Fin cfg0.N) (hi : (grid0.coords t 1).val ≠ 7) (e : Fin 1024) :
    iblk m c 2 t (ix3 0 0 e) = argX m c (ix3 (batch t) ⟨(grid0.coords t 1).val * 256 + 256, by have := block_lt t; omega⟩ e) := by
  have hb := block_lt t
  blk_simp [iblk, index_2]
  rw [V_main_arg0]
  refine congrArg _ ?_
  blk_ext [index_2, batch]

theorem shift_block (t : Fin cfg0.N) (e : Fin 1024) : iblk m c 3 t (ix3 0 0 e) = argMod m c (ix3 ⟨(batch t).val, by omega⟩ 0 ⟨e.val, by omega⟩) := by
  blk_simp [iblk, index_3]
  rw [V_main_arg1]
  refine congrArg _ ?_
  blk_ext [index_3, batch]

theorem scale_block (t : Fin cfg0.N) (e : Fin 1024) : iblk m c 4 t (ix3 0 0 e) = argMod m c (ix3 ⟨(batch t).val, by omega⟩ 0 ⟨1024 + e.val, by omega⟩) := by
  blk_simp [iblk, index_4]
  rw [V_main_arg1]
  refine congrArg _ ?_
  blk_ext [index_4, batch]

theorem norm_block (t : Fin cfg0.N) (e : Fin 1024) : iblk m c 5 t (ix2 0 e) = argNorm m c (ix1 e) := by
  refine Eq.trans ?_ (norm_prep m c e)
  blk_simp [iblk, index_5]
  refine congrArg _ ?_
  blk_ext [index_5]

theorem weights_block (t : Fin cfg0.N) (e : Fin 1024) (n : Fin 8704) : iblk m c 6 t (ix2 e n) = argW m c (ix2 e n) := by
  refine Eq.trans ?_ (weights_prep m c (ix2 e n))
  blk_simp [iblk, index_6]
  refine congrArg _ ?_
  blk_ext [index_6]

theorem queryGain_block (t : Fin cfg0.N) (n : Fin 256) : iblk m c 7 t (ix2 0 n) = argQg m c (ix1 ⟨n.val % 64, by omega⟩) := by
  refine Eq.trans ?_ (queryGain_prep m c n)
  blk_simp [iblk, index_7]
  refine congrArg _ ?_
  blk_ext [index_7]

theorem keyGain_block (t : Fin cfg0.N) (n : Fin 256) : iblk m c 8 t (ix2 0 n) = argKg m c (ix1 ⟨n.val % 64, by omega⟩) := by
  refine Eq.trans ?_ (keyGain_prep m c n)
  blk_simp [iblk, index_8]
  refine congrArg _ ?_
  blk_ext [index_8]

theorem ones_block (t : Fin cfg0.N) (k n : Fin 256) : iblk m c 9 t (ix2 k n) = if k.val / 64 = n.val / 64 then (1 : EReal) else 0 := by
  refine Eq.trans ?_ (ones_prep m c k n)
  blk_simp [iblk, index_9]
  refine congrArg _ ?_
  blk_ext [index_9]

theorem cos_block (t : Fin cfg0.N) (i : Fin 2048) (l : Fin 128) : iblk m c 10 t (ix2 i l) = argCos m c (ix2 i ⟨l.val % 64, by omega⟩) := by
  refine Eq.trans ?_ (cos_prep m c i l)
  blk_simp [iblk, index_10]
  refine congrArg _ ?_
  blk_ext [index_10]

theorem lo_block (t : Fin cfg0.N) (i : Fin 2048) (l : Fin 128) :
    iblk m c 11 t (ix2 i l) = if l.val % 64 % 32 < 16 then -(argSin m c (ix2 i ⟨l.val % 64, by omega⟩)) else 0 := by
  refine Eq.trans ?_ (lo_prep m c i l)
  blk_simp [iblk, index_11]
  refine congrArg _ ?_
  blk_ext [index_11]

theorem hi_block (t : Fin cfg0.N) (i : Fin 2048) (l : Fin 128) :
    iblk m c 12 t (ix2 i l) = if l.val % 64 % 32 < 16 then 0 else argSin m c (ix2 i ⟨l.val % 64, by omega⟩) := by
  refine Eq.trans ?_ (hi_prep m c i l)
  blk_simp [iblk, index_12]
  refine congrArg _ ?_
  blk_ext [index_12]

theorem taps_block (t : Fin cfg0.N) (k : Fin 3) (e : Fin 1024) : iblk m c 13 t (ix2 k e) = argCw m c (ix2 k e) := by
  blk_simp [iblk, index_13]
  rw [V_main_arg8]
  refine congrArg _ ?_
  blk_ext [index_13]

theorem convBias_block (t : Fin cfg0.N) (e : Fin 1024) : iblk m c 14 t (ix2 0 e) = argCb m c (ix1 e) := by
  refine Eq.trans ?_ (convBias_prep m c e)
  blk_simp [iblk, index_14]
  refine congrArg _ ?_
  blk_ext [index_14]

theorem merge_block (t : Fin cfg0.N) (e n : Fin 1024) : iblk m c 15 t (ix2 e n) = argWcb m c (ix2 e n) := by
  refine Eq.trans ?_ (merge_prep m c (ix2 e n))
  blk_simp [iblk, index_15]
  refine congrArg _ ?_
  blk_ext [index_15]

theorem gates_block (t : Fin cfg0.N) (k : Fin 2) (n : Fin 1024) : iblk m c 16 t (ix2 k n) = argBg m c (ix2 k n) := by
  blk_simp [iblk, index_16]
  rw [V_main_arg11]
  refine congrArg _ ?_
  blk_ext [index_16]

/-- The block's rows of a table are the table's at those rows. -/
theorem table_row (t : Fin cfg0.N) (x : FVec Ideal S2048x128 .f32) (r : Fin 256) (l : Fin 128) : tableAt t x (ix2 r l) = x (ix2 (row t r) l) := by
  show x ((Rect.unit (s := S2048x128) (k0_off1 (grid0.coords t)) S256x128.size (k0_off1_inb (grid0.coords t))).emb (ix2 r l)) = _
  refine congrArg x (funext fun k => Fin.ext ?_)
  rw [ValueKit.rect_emb_unit_val]
  refine (congrArg (· + _) (congrFun (k0_off1_eq (grid0.coords t)) k)).trans ?_
  match k with
  | ⟨0, _⟩ => show 256 * (grid0.coords t 1).val + r.val = (grid0.coords t 1).val * 256 + r.val; omega
  | ⟨1, _⟩ => show 0 + l.val = l.val; omega

/-! ## The projected rows -/

/-- The layer's projected rows, of the program's arguments. -/
abbrev proj : Fin 8 → Fin 2048 → Fin 8704 → EReal := projected (argX m c) (argMod m c) (argNorm m c) (argW m c)

/-- A normed row as the kernel orders its product. -/
theorem normed_row (t : Fin cfg0.N) (i : Fin 2048) (v : Fin 1024 → EReal) (hv : ∀ e, v e = argX m c (ix3 (batch t) i e)) (e : Fin 1024) :
    normedRow v (fun e => iblk m c 5 t (ix2 0 e)) (fun e => iblk m c 4 t (ix3 0 0 e)) (fun e => iblk m c 3 t (ix3 0 0 e)) e
      = Cert.ProjLayer.hidden (argX m c) (argMod m c) (argNorm m c) (batch t) i e := by
  obtain rfl : v = fun e => argX m c (ix3 (batch t) i e) := funext hv
  unfold normedRow Cert.ProjLayer.hidden
  beta_reduce
  rw [norm_block, scale_block, shift_block, ← mul_assoc]

theorem wide_mid (t : Fin cfg0.N) (r : Fin 256) (n : Fin 8704) : wide (midAt m c t) (iblk m c 6 t) r n = proj m c (batch t) (row t r) n :=
  Finset.sum_congr rfl fun e _ => congrArg₂ (· * ·) (normed_row m c t (row t r) _ (fun e => x_block m c t r e) e) (weights_block m c t e n)

theorem wide_ext (t : Fin cfg0.N) (r : Fin 288) (i : Fin 2048) (n : Fin 8704)
    (h : ∀ e, source (iblk m c 0 t) (iblk m c 1 t) (iblk m c 2 t) r e = argX m c (ix3 (batch t) i e)) :
    wide (extAt m c t) (iblk m c 6 t) r n = proj m c (batch t) i n :=
  Finset.sum_congr rfl fun e _ => congrArg₂ (· * ·) (normed_row m c t i _ h e) (weights_block m c t e n)

theorem source_own (t : Fin cfg0.N) (r : Fin 288) (q : Fin 256) (hq : r.val = 16 + q.val) (e : Fin 1024) :
    source (iblk m c 0 t) (iblk m c 1 t) (iblk m c 2 t) r e = argX m c (ix3 (batch t) (row t q) e) := by
  unfold source
  rw [dif_neg (by omega), dif_pos (by omega)]
  refine Eq.trans (congrArg (fun z => iblk m c 0 t (ix3 0 z e)) ?_) (x_block m c t q e)
  exact Fin.ext (by simp only; omega)

/-- The row before row `r`: the block's own, or the last of the sixteen before. -/
theorem source_before (t : Fin cfg0.N) (r : Fin 256) (hr : ¬ (r.val = 0 ∧ (grid0.coords t 1).val = 0)) (e : Fin 1024) :
    source (iblk m c 0 t) (iblk m c 1 t) (iblk m c 2 t) ⟨15 + r.val, by omega⟩ e = argX m c (ix3 (batch t) ⟨(row t r).val - 1, by omega⟩ e) := by
  by_cases h0 : r.val = 0
  · have hi : (grid0.coords t 1).val ≠ 0 := fun h => hr ⟨h0, h⟩
    unfold source
    rw [dif_pos (by simp only; omega)]
    refine Eq.trans (congrArg (fun z => iblk m c 1 t (ix3 0 z e)) (Fin.ext ?_ : _ = (15 : Fin 16))) ((above_block m c t hi e).trans ?_)
    · show 15 + r.val = 15; omega
    · refine congrArg (fun z => argX m c (ix3 (batch t) z e)) (Fin.ext ?_)
      show (grid0.coords t 1).val * 256 - 1 = (grid0.coords t 1).val * 256 + r.val - 1
      omega
  · refine (source_own m c t _ ⟨r.val - 1, by omega⟩ (by simp only; omega) e).trans ?_
    refine congrArg (fun z => argX m c (ix3 (batch t) z e)) (Fin.ext ?_)
    show (grid0.coords t 1).val * 256 + (r.val - 1) = (grid0.coords t 1).val * 256 + r.val - 1
    omega

/-- The row behind row `r`: the block's own, or the first of the sixteen behind. -/
theorem source_behind (t : Fin cfg0.N) (r : Fin 256) (hr : ¬ (r.val = 255 ∧ (grid0.coords t 1).val = 7)) (hlt : (row t r).val + 1 < 2048) (e : Fin 1024) :
    source (iblk m c 0 t) (iblk m c 1 t) (iblk m c 2 t) ⟨17 + r.val, by omega⟩ e = argX m c (ix3 (batch t) ⟨(row t r).val + 1, hlt⟩ e) := by
  by_cases h0 : r.val = 255
  · have hi : (grid0.coords t 1).val ≠ 7 := fun h => hr ⟨h0, h⟩
    unfold source
    rw [dif_neg (by simp only; omega), dif_neg (by simp only; omega)]
    refine Eq.trans (congrArg (fun z => iblk m c 2 t (ix3 0 z e)) (Fin.ext ?_ : _ = (0 : Fin 16))) ((below_block m c t hi e).trans ?_)
    · show 17 + r.val - 272 = 0; omega
    · refine congrArg (fun z => argX m c (ix3 (batch t) z e)) (Fin.ext ?_)
      show (grid0.coords t 1).val * 256 + 256 = (grid0.coords t 1).val * 256 + r.val + 1
      omega
  · refine (source_own m c t _ ⟨r.val + 1, by omega⟩ (by simp only; omega) e).trans ?_
    refine congrArg (fun z => argX m c (ix3 (batch t) z e)) (Fin.ext ?_)
    show (grid0.coords t 1).val * 256 + (r.val + 1) = (grid0.coords t 1).val * 256 + r.val + 1
    omega

end Cert.Proj
-- ==== Proof.ProjTiles.lean ====
/-
  What a grid point writes, in the layer's terms: its tiles are the queries, keys, values, gates and the local branch of the block's rows.
-/
module

public import proofs.«01_k».proof.Proof.ProjBlocks

@[expose] public section

noncomputable section

namespace Cert.Proj

open Idealize.ShloMosaic Idealize.ShloMosaic.TcCoe Cert.ProjectionIdeal Cert.ProjectionIdeal.Gen Cert.Layer Cert.ProjLayer

variable (m : (ℓ : Loc nD τ sig) → Buf (Elt Ideal) ℓ) (c : Dev nD)

/-! ## A head among 256 lanes -/

/-- Summing 256 lanes against the ones of a head sums that head's 64. -/
theorem head_sum (f : Fin 256 → EReal) (n : Fin 256) :
    (∑ l : Fin 256, f l * (if l.val / 64 = n.val / 64 then (1 : EReal) else 0)) = ∑ d : Fin 64, f ⟨64 * (n.val / 64) + d.val, by omega⟩ := by
  rw [show (∑ l : Fin 256, f l * (if l.val / 64 = n.val / 64 then (1 : EReal) else 0)) = ∑ l : Fin 256, if l.val / 64 = n.val / 64 then f l else 0 from
    Finset.sum_congr rfl fun l _ => by split_ifs <;> simp]
  rw [← Finset.sum_filter]
  refine Finset.sum_bij' (fun l _ => (⟨l.val % 64, by omega⟩ : Fin 64)) (fun d _ => (⟨64 * (n.val / 64) + d.val, by omega⟩ : Fin 256)) ?_ ?_ ?_ ?_ ?_
  · intro l _; exact Finset.mem_univ _
  · intro d _
    refine Finset.mem_filter.mpr ⟨Finset.mem_univ _, ?_⟩
    show (64 * (n.val / 64) + d.val) / 64 = n.val / 64
    omega
  · intro l hl
    have h := (Finset.mem_filter.mp hl).2
    exact Fin.ext (by show 64 * (n.val / 64) + l.val % 64 = l.val; omega)
  · intro d _
    exact Fin.ext (by show (64 * (n.val / 64) + d.val) % 64 = d.val; omega)
  · intro l hl
    have h := (Finset.mem_filter.mp hl).2
    exact congrArg f (Fin.ext (by show l.val = 64 * (n.val / 64) + l.val % 64; omega))

/-- The root over 256 lanes with the ones of a head is that head's. -/
theorem head_root (t : Fin cfg0.N) (k : Fin 7) (r n : Fin 256) (v : Fin 64 → EReal)
    (hv : ∀ d : Fin 64, v d = proj m c (batch t) (row t r) ⟨256 * k.val + (64 * (n.val / 64) + d.val), by omega⟩) :
    headRoot (midAt m c t) (iblk m c 6 t) (iblk m c 9 t) k r n = rroot v dim := by
  unfold headRoot rroot
  rw [div_dim]
  refine congrArg (fun z => Ideal.rsqrt (z * _ + eps)) ?_
  refine (Finset.sum_congr rfl fun l _ => ?_).trans ((head_sum (fun l => proj m c (batch t) (row t r) ⟨256 * k.val + l.val, by omega⟩
    * proj m c (batch t) (row t r) ⟨256 * k.val + l.val, by omega⟩) n).trans (Finset.sum_congr rfl fun d _ => by rw [hv]))
  rw [wide_mid, ones_block]

/-- The gained and rotated lanes times the head's root are the head after its norm and rotation. -/
theorem head_turned (t : Fin cfg0.N) (k : Fin 7) (r n : Fin 256) (g : FVec Ideal S1x256 .f32) (gain v : Fin 64 → EReal) (d : Fin 64) (hd : d.val = n.val % 64)
    (hg : ∀ l : Fin 256, g (ix2 0 l) = gain ⟨l.val % 64, by omega⟩)
    (hv : ∀ d : Fin 64, v d = proj m c (batch t) (row t r) ⟨256 * k.val + (64 * (n.val / 64) + d.val), by omega⟩) :
    spunTile (midAt m c t) (iblk m c 6 t) g (tableAt t (iblk m c 10 t)) (tableAt t (iblk m c 11 t)) (tableAt t (iblk m c 12 t)) k r n
        * headRoot (midAt m c t) (iblk m c 6 t) (iblk m c 9 t) k r n
      = rotated v gain (fun d => argCos m c (ix2 (row t r) d)) (fun d => argSin m c (ix2 (row t r) d)) d := by
  have hn := n.isLt
  rw [head_root m c t k r n v hv]
  have lane (l : Fin 256) (q : Fin 64) (hl : l.val = 64 * (n.val / 64) + q.val) :
      wide (midAt m c t) (iblk m c 6 t) r ⟨256 * k.val + l.val, by omega⟩ * g (ix2 0 l) = v q * gain q := by
    rw [wide_mid, hg, hv]
    refine congrArg₂ (fun a b => proj m c (batch t) (row t r) a * gain b) (Fin.ext ?_) (Fin.ext ?_)
    · show 256 * k.val + l.val = 256 * k.val + (64 * (n.val / 64) + q.val); omega
    · show l.val % 64 = q.val; omega
  rw [← rotated_eq v gain _ _ d
    (wide (midAt m c t) (iblk m c 6 t) r ⟨256 * k.val + (128 * (n.val / 128) + (n.val + 16) % 128), by omega⟩ * g (ix2 0 ⟨128 * (n.val / 128) + (n.val + 16) % 128, by omega⟩))
    (wide (midAt m c t) (iblk m c 6 t) r ⟨256 * k.val + (128 * (n.val / 128) + (n.val + 112) % 128), by omega⟩ * g (ix2 0 ⟨128 * (n.val / 128) + (n.val + 112) % 128, by omega⟩))
    (fun h => lane ⟨128 * (n.val / 128) + (n.val + 16) % 128, by omega⟩ _ (by simp only; omega))
    (fun h => lane ⟨128 * (n.val / 128) + (n.val + 112) % 128, by omega⟩ _ (by simp only; omega))]
  refine congrArg (· * rroot v dim) ?_
  unfold spunTile spun
  beta_reduce
  rw [table_row, table_row, table_row, cos_block, lo_block, hi_block]
  have e : (⟨n.val % 128 % 64, by omega⟩ : Fin 64) = d := Fin.ext (by show n.val % 128 % 64 = d.val; omega)
  simp only [e]
  have e' : n.val % 128 % 64 % 32 = d.val % 32 := by omega
  simp only [e']
  rw [lane n d (by omega)]

/-! ## The tiles -/

theorem query_tile (t : Fin cfg0.N) (r : Fin 256) (n : Fin 1024) :
    tiled (e := .bf16) (queryAt m c t) (ix3 0 r n) = queryOut (proj m c) (argQg m c) (argCos m c) (argSin m c) (batch t) (row t r) n := by
  have hn := n.isLt
  show queryAt m c t ⟨n.val / 256, _⟩ r ⟨n.val % 256, _⟩ = _
  unfold queryOut
  show queryTile _ _ _ _ _ _ _ _ _ _ = _
  unfold queryTile
  rw [← mul_assoc]
  refine congrArg (· * scale) ?_
  refine head_turned m c t ⟨n.val / 256, by omega⟩ r ⟨n.val % 256, by omega⟩ (iblk m c 7 t) (fun d => argQg m c (ix1 d)) _ _ ?_ (queryGain_block m c t) ?_
  · show n.val % 64 = n.val % 256 % 64; omega
  · intro d
    exact congrArg (proj m c (batch t) (row t r)) (Fin.ext (by show 64 * (n.val / 64) + d.val = 256 * (n.val / 256) + (64 * (n.val % 256 / 64) + d.val); omega))

theorem key_tile (t : Fin cfg0.N) (g : Fin 4) (l : Fin 128) (r : Fin 256) :
    keyTile (midAt m c t) (iblk m c 6 t) (iblk m c 8 t) (iblk m c 9 t) (tableAt t (iblk m c 10 t)) (tableAt t (iblk m c 11 t)) (tableAt t (iblk m c 12 t)) g l r
      = keyOut (proj m c) (argKg m c) (argCos m c) (argSin m c) (batch t) g l (row t r) := by
  unfold keyTile keyOut
  refine head_turned m c t 4 r ⟨64 * g.val + l.val % 64, by omega⟩ (iblk m c 8 t) (fun d => argKg m c (ix1 d)) _ _ ?_ (keyGain_block m c t) ?_
  · show l.val % 64 = (64 * g.val + l.val % 64) % 64; omega
  · intro d
    exact congrArg (proj m c (batch t) (row t r)) (Fin.ext (by show 1024 + 64 * g.val + d.val = 256 * 4 + (64 * ((64 * g.val + l.val % 64) / 64) + d.val); omega))

theorem value_tile (t : Fin cfg0.N) (g : Fin 4) (r : Fin 256) (l : Fin 128) :
    valueTile (midAt m c t) (iblk m c 6 t) g r l = valueOut (proj m c) (batch t) g (row t r) l := by
  unfold valueTile valueOut
  rw [wide_mid]
  exact congrArg (proj m c (batch t) (row t r)) (Fin.ext (by show 1280 + (64 * g.val + l.val % 64) = 1280 + 64 * g.val + l.val % 64; omega))

theorem sza_tile (t : Fin cfg0.N) (r : Fin 256) (n : Fin 1024) :
    szaTile (midAt m c t) (iblk m c 6 t) ⟨n.val / 256, by omega⟩ r ⟨n.val % 256, by omega⟩ = outGate (proj m c) (batch t) (row t r) n := by
  unfold szaTile outGate
  rw [wide_mid]
  exact congrArg (fun z => silu (proj m c (batch t) (row t r) z)) (Fin.ext (by show 1536 + 256 * (n.val / 256) + n.val % 256 = 1536 + n.val; omega))

theorem gate_tile (t : Fin cfg0.N) (k : Fin 2) (r : Fin 256) (n : Fin 1024) :
    gateTile (midAt m c t) (iblk m c 6 t) (iblk m c 16 t) k ⟨n.val / 256, by omega⟩ r ⟨n.val % 256, by omega⟩ = gate (proj m c) (argBg m c) k (batch t) (row t r) n := by
  unfold gateTile gate
  rw [wide_mid, gates_block]
  refine congrArg₂ (fun a b => Ideal.logistic (proj m c (batch t) (row t r) a + argBg m c (ix2 k b))) (Fin.ext ?_) (Fin.ext ?_)
  · show 6656 + 1024 * k.val + 256 * (n.val / 256) + n.val % 256 = 6656 + 1024 * k.val + n.val; omega
  · show 256 * (n.val / 256) + n.val % 256 = n.val; omega

/-- The product the local convolution runs over, at a kept row that is the layer's row `i`. -/
theorem conv_tile (t : Fin cfg0.N) (r : Fin 288) (i : Fin 2048) (e : Fin 1024)
    (h : ∀ e, source (iblk m c 0 t) (iblk m c 1 t) (iblk m c 2 t) r e = argX m c (ix3 (batch t) i e)) :
    convTile (iblk m c 6 t) (extAt m c t) ⟨e.val / 256, by omega⟩ r ⟨e.val % 256, by omega⟩ = conved (proj m c) (batch t) i e := by
  unfold convTile conved
  rw [wide_ext m c t r i _ h, wide_ext m c t r i _ h]
  refine congrArg₂ (fun a b => proj m c (batch t) i a * proj m c (batch t) i b) (Fin.ext ?_) (Fin.ext ?_)
  · show 4608 + 256 * (e.val / 256) + e.val % 256 = 4608 + e.val; omega
  · show 2560 + 256 * (e.val / 256) + e.val % 256 = 2560 + e.val; omega

theorem branch_tile (t : Fin cfg0.N) (r : Fin 256) (e : Fin 1024) :
    branchTile (midAt m c t) (iblk m c 6 t) (extAt m c t) (iblk m c 13 t) (iblk m c 14 t) (grid0.coords t 1) ⟨e.val / 256, by omega⟩ r ⟨e.val % 256, by omega⟩
      = branch (proj m c) (argCw m c) (argCb m c) (batch t) (row t r) e := by
  have hb := block_lt t
  have hrow : (row t r).val = (grid0.coords t 1).val * 256 + r.val := rfl
  have lane : (⟨256 * (e.val / 256) + e.val % 256, by omega⟩ : Fin 1024) = e := Fin.ext (by show 256 * (e.val / 256) + e.val % 256 = e.val; omega)
  have h0 : (if r.val = 0 ∧ (grid0.coords t 1).val = 0 then (0 : EReal)
      else convTile (iblk m c 6 t) (extAt m c t) ⟨e.val / 256, by omega⟩ ⟨15 + r.val, by omega⟩ ⟨e.val % 256, by omega⟩ * argCw m c (ix2 0 e))
      = before (proj m c) (batch t) (row t r) e * argCw m c (ix2 0 e) := by
    unfold before
    by_cases h : r.val = 0 ∧ (grid0.coords t 1).val = 0
    · rw [if_pos h, if_pos (by omega), zero_mul]
    · rw [if_neg h, if_neg (by omega), conv_tile m c t _ _ e (source_before m c t r h)]
  have h2 : (if r.val = 255 ∧ (grid0.coords t 1).val = 7 then (0 : EReal)
      else convTile (iblk m c 6 t) (extAt m c t) ⟨e.val / 256, by omega⟩ ⟨17 + r.val, by omega⟩ ⟨e.val % 256, by omega⟩ * argCw m c (ix2 2 e))
      = behind (proj m c) (batch t) (row t r) e * argCw m c (ix2 2 e) := by
    unfold behind
    by_cases h : r.val = 255 ∧ (grid0.coords t 1).val = 7
    · rw [if_pos h, dif_pos (by omega), zero_mul]
    · rw [if_neg h, dif_neg (by omega), conv_tile m c t _ _ e (source_behind m c t r h (by omega))]
  have h1 := conv_tile m c t ⟨16 + r.val, by omega⟩ (row t r) e (source_own m c t _ r rfl)
  unfold branchTile branch
  simp only [lane]
  rw [wide_mid, wide_mid, taps_block, taps_block, taps_block, convBias_block, h0, h1, h2]
  refine congrArg₂ (fun a b => proj m c (batch t) (row t r) a * _ * silu (proj m c (batch t) (row t r) b)) (Fin.ext ?_) (Fin.ext ?_)
  · show 3584 + 256 * (e.val / 256) + e.val % 256 = 3584 + e.val; omega
  · show 5632 + 256 * (e.val / 256) + e.val % 256 = 5632 + e.val; omega

theorem merge_tile (t : Fin cfg0.N) (r : Fin 256) (n : Fin 1024) :
    mergeTile (midAt m c t) (iblk m c 6 t) (branchAt m c t) (iblk m c 16 t) (iblk m c 15 t) ⟨n.val / 256, by omega⟩ r ⟨n.val % 256, by omega⟩
      = branchOut (proj m c) (argCw m c) (argCb m c) (argWcb m c) (argBg m c) (batch t) (row t r) n := by
  unfold mergeTile branchOut
  rw [gate_tile]
  refine congrArg (gate (proj m c) (argBg m c) 1 (batch t) (row t r) n * ·) (Finset.sum_congr rfl fun e _ => ?_)
  rw [merge_block]
  refine congrArg₂ (fun a b => a * argWcb m c (ix2 e b)) (branch_tile m c t r e) (Fin.ext ?_)
  show 256 * (n.val / 256) + n.val % 256 = n.val
  omega

end Cert.Proj
-- ==== Proof.ProjOutQuery.lean ====
/-
  The queries a grid point leaves: the stored tiles joined.
-/
module

public import proofs.«01_k».proof.Proof.ProjAt

@[expose] public section

noncomputable section

namespace Cert.Proj

open Idealize.ShloMosaic Cert.ProjectionIdeal Cert.ProjectionIdeal.Gen Cert.Layer Cert.ProjLayer

variable (m : (ℓ : Loc nD τ sig) → Buf (Elt Ideal) ℓ) (c : Dev nD) (t : Fin cfg0.N)

set_option maxHeartbeats 4000000 in
theorem out_query : (outsAt0 m c t).1 = tiled (e := .bf16) (queryAt m c t) := by
  unfold outsAt0
  dsimp only
  frame_out
  rw [mid_read]
  funext y
  refine View.canon_apply_of_pieces (S := S1x256x1024) _ _ ?_ _ (View.cover_of_tiledL (s := S1x256x1024) _ S1x256x256.size (by sl_kernel_rfl) y)
  simp only [List.forall_mem_cons, List.not_mem_nil, false_imp_iff, implies_true, and_true]
  exact ⟨tile_at _ _ 3 (query_piece_at m c t 3), tile_at _ _ 2 (query_piece_at m c t 2), tile_at _ _ 1 (query_piece_at m c t 1), tile_at _ _ 0 (query_piece_at m c t 0)⟩

end Cert.Proj
-- ==== Proof.ProjOutKey.lean ====
/-
  The keys a grid point leaves: the stored tiles joined.
-/
module

public import proofs.«01_k».proof.Proof.ProjAt

@[expose] public section

noncomputable section

namespace Cert.Proj

open Idealize.ShloMosaic Cert.ProjectionIdeal Cert.ProjectionIdeal.Gen Cert.Layer Cert.ProjLayer

variable (m : (ℓ : Loc nD τ sig) → Buf (Elt Ideal) ℓ) (c : Dev nD) (t : Fin cfg0.N)

set_option maxHeartbeats 4000000 in
theorem out_key : (outsAt0 m c t).2.1 = stacked (e := .bf16) (keyTile (midAt m c t) (iblk m c 6 t) (iblk m c 8 t) (iblk m c 9 t)
    (tableAt t (iblk m c 10 t)) (tableAt t (iblk m c 11 t)) (tableAt t (iblk m c 12 t))) := by
  unfold outsAt0
  dsimp only
  frame_out
  rw [mid_read]
  funext y
  refine View.canon_apply_of_pieces (S := S1x4x128x256) _ _ ?_ _ (View.cover_of_tiledL (s := S1x4x128x256) _ S1x1x128x256.size (by sl_kernel_rfl) y)
  simp only [List.forall_mem_cons, List.not_mem_nil, false_imp_iff, implies_true, and_true]
  exact ⟨head_at _ _ 3 (key_piece3 (midAt m c t) (iblk m c 6 t) _ _ _ _ _), head_at _ _ 2 (key_piece2 (midAt m c t) (iblk m c 6 t) _ _ _ _ _),
    head_at _ _ 1 (key_piece1 (midAt m c t) (iblk m c 6 t) _ _ _ _ _), head_at _ _ 0 (key_piece0 (midAt m c t) (iblk m c 6 t) _ _ _ _ _)⟩

end Cert.Proj
-- ==== Proof.ProjOutValue.lean ====
/-
  The values a grid point leaves: the stored tiles joined.
-/
module

public import proofs.«01_k».proof.Proof.ProjAt

@[expose] public section

noncomputable section

namespace Cert.Proj

open Idealize.ShloMosaic Cert.ProjectionIdeal Cert.ProjectionIdeal.Gen Cert.Layer Cert.ProjLayer

variable (m : (ℓ : Loc nD τ sig) → Buf (Elt Ideal) ℓ) (c : Dev nD) (t : Fin cfg0.N)

set_option maxHeartbeats 2000000 in
theorem out_value : (outsAt0 m c t).2.2.1 = stacked (e := .bf16) (valueTile (midAt m c t) (iblk m c 6 t)) := by
  unfold outsAt0
  dsimp only
  frame_out
  rw [mid_read]
  funext y
  refine View.canon_apply_of_pieces (S := S1x4x256x128) _ _ ?_ _ (View.cover_of_tiledL (s := S1x4x256x128) _ S1x1x256x128.size (by sl_kernel_rfl) y)
  simp only [List.forall_mem_cons, List.not_mem_nil, false_imp_iff, implies_true, and_true]
  exact ⟨head_at _ _ 3 (value_piece3 (midAt m c t) (iblk m c 6 t)), head_at _ _ 2 (value_piece2 (midAt m c t) (iblk m c 6 t)),
    head_at _ _ 1 (value_piece1 (midAt m c t) (iblk m c 6 t)), head_at _ _ 0 (value_piece0 (midAt m c t) (iblk m c 6 t))⟩

end Cert.Proj
-- ==== Proof.ProjOutGate.lean ====
/-
  The output gate a grid point leaves: the stored tiles joined.
-/
module

public import proofs.«01_k».proof.Proof.ProjAt

@[expose] public section

noncomputable section

namespace Cert.Proj

open Idealize.ShloMosaic Cert.ProjectionIdeal Cert.ProjectionIdeal.Gen Cert.Layer Cert.ProjLayer

variable (m : (ℓ : Loc nD τ sig) → Buf (Elt Ideal) ℓ) (c : Dev nD) (t : Fin cfg0.N)

set_option maxHeartbeats 2000000 in
theorem out_sza : (outsAt0 m c t).2.2.2.1 = tiled (e := .bf16) (szaTile (midAt m c t) (iblk m c 6 t)) := by
  unfold outsAt0
  dsimp only
  frame_out
  rw [mid_read]
  funext y
  refine View.canon_apply_of_pieces (S := S1x256x1024) _ _ ?_ _ (View.cover_of_tiledL (s := S1x256x1024) _ S1x256x256.size (by sl_kernel_rfl) y)
  simp only [List.forall_mem_cons, List.not_mem_nil, false_imp_iff, implies_true, and_true]
  exact ⟨tile_at _ _ 3 (sza_piece (midAt m c t) (iblk m c 6 t) 3), tile_at _ _ 2 (sza_piece (midAt m c t) (iblk m c 6 t) 2),
    tile_at _ _ 1 (sza_piece (midAt m c t) (iblk m c 6 t) 1), tile_at _ _ 0 (sza_piece (midAt m c t) (iblk m c 6 t) 0)⟩

end Cert.Proj
-- ==== Proof.ProjOutMergeGate.lean ====
/-
  The merge gate a grid point leaves: the stored tiles joined.
-/
module

public import proofs.«01_k».proof.Proof.ProjAt

@[expose] public section

noncomputable section

namespace Cert.Proj

open Idealize.ShloMosaic Cert.ProjectionIdeal Cert.ProjectionIdeal.Gen Cert.Layer Cert.ProjLayer

variable (m : (ℓ : Loc nD τ sig) → Buf (Elt Ideal) ℓ) (c : Dev nD) (t : Fin cfg0.N)

set_option maxHeartbeats 2000000 in
theorem out_gate : (outsAt0 m c t).2.2.2.2.1 = tiled (e := .bf16) (gateTile (midAt m c t) (iblk m c 6 t) (iblk m c 16 t) 0) := by
  unfold outsAt0
  dsimp only
  frame_out
  rw [mid_read]
  funext y
  refine View.canon_apply_of_pieces (S := S1x256x1024) _ _ ?_ _ (View.cover_of_tiledL (s := S1x256x1024) _ S1x256x256.size (by sl_kernel_rfl) y)
  simp only [List.forall_mem_cons, List.not_mem_nil, false_imp_iff, implies_true, and_true]
  exact ⟨tile_at _ _ 3 (gate_piece (midAt m c t) (iblk m c 6 t) (iblk m c 16 t) 3), tile_at _ _ 2 (gate_piece (midAt m c t) (iblk m c 6 t) (iblk m c 16 t) 2),
    tile_at _ _ 1 (gate_piece (midAt m c t) (iblk m c 6 t) (iblk m c 16 t) 1), tile_at _ _ 0 (gate_piece (midAt m c t) (iblk m c 6 t) (iblk m c 16 t) 0)⟩

end Cert.Proj
-- ==== Proof.ProjOutBranch.lean ====
/-
  The local branch a grid point leaves: the stored tiles joined.
-/
module

public import proofs.«01_k».proof.Proof.ProjAt

@[expose] public section

noncomputable section

namespace Cert.Proj

open Idealize.ShloMosaic Cert.ProjectionIdeal Cert.ProjectionIdeal.Gen Cert.Layer Cert.ProjLayer

variable (m : (ℓ : Loc nD τ sig) → Buf (Elt Ideal) ℓ) (c : Dev nD) (t : Fin cfg0.N)

set_option maxHeartbeats 8000000 in
theorem out_merge : (outsAt0 m c t).2.2.2.2.2 = tiled (e := .f32) (mergeTile (midAt m c t) (iblk m c 6 t) (branchAt m c t) (iblk m c 16 t) (iblk m c 15 t)) := by
  unfold outsAt0
  dsimp only
  frame_out
  rw [mid_read, ext_read]
  simp only [View.readCov_fill (s := S288x256) _ inb_S288x256_S288x256_0_0 _ _ _ zero_off]
  have scratch : ∀ L : List (View.Piece (Elt Ideal) S256x1024 .bf16), View.canon (Val := Elt Ideal) L = branchAt m c t →
      (View.whole cc0_scratch2).readCov (Val := Elt Ideal) L (Rect.unit (s := S256x1024) ![0, 0] ![256, 1024] inb_S256x1024_S256x1024_0_0).toLoadRect = branchAt m c t := by
    intro L hL
    rw [View.readCov_eq_canon', hL]
    funext y
    exact congrArg (branchAt m c t) (funext fun a => Fin.ext (by
      show (![0, 0] : Fin 2 → ℕ) a + 1 * (y a).val = (y a).val
      have : (![0, 0] : Fin 2 → ℕ) a = 0 := by revert a; decide
      omega))
  rw [scratch _ ?_]
  · funext y
    refine View.canon_apply_of_pieces (S := S1x256x1024) _ _ ?_ _ (View.cover_of_tiledL (s := S1x256x1024) _ S1x256x256.size (by sl_kernel_rfl) y)
    simp only [List.forall_mem_cons, List.not_mem_nil, false_imp_iff, implies_true, and_true]
    exact ⟨tile_at _ _ 3 (merge_piece (midAt m c t) (iblk m c 6 t) (branchAt m c t) (iblk m c 16 t) (iblk m c 15 t) 3),
      tile_at _ _ 2 (merge_piece (midAt m c t) (iblk m c 6 t) (branchAt m c t) (iblk m c 16 t) (iblk m c 15 t) 2),
      tile_at _ _ 1 (merge_piece (midAt m c t) (iblk m c 6 t) (branchAt m c t) (iblk m c 16 t) (iblk m c 15 t) 1),
      tile_at _ _ 0 (merge_piece (midAt m c t) (iblk m c 6 t) (branchAt m c t) (iblk m c 16 t) (iblk m c 15 t) 0)⟩
  · funext y
    refine View.canon_apply_of_pieces (S := S256x1024) _ _ ?_ _ (View.cover_of_tiledL (s := S256x1024) _ S256x256.size (by sl_kernel_rfl) y)
    simp only [List.forall_mem_cons, List.not_mem_nil, false_imp_iff, implies_true, and_true]
    exact ⟨flat_at _ _ 3 (branch_piece_at m c t 3), flat_at _ _ 2 (branch_piece_at m c t 2), flat_at _ _ 1 (branch_piece_at m c t 1), flat_at _ _ 0 (branch_piece_at m c t 0)⟩

end Cert.Proj
-- ==== Proof.ProjWhole.lean ====
/-
  The projection kernel's six result arrays, entry by entry: the grid point of batch `b` and of the 256 rows around `i` writes that part of each.
-/
module

public import proofs.«01_k».proof.Proof.ProjTiles
public import proofs.«01_k».proof.Proof.ProjOutQuery
public import proofs.«01_k».proof.Proof.ProjOutKey
public import proofs.«01_k».proof.Proof.ProjOutValue
public import proofs.«01_k».proof.Proof.ProjOutGate
public import proofs.«01_k».proof.Proof.ProjOutMergeGate
public import proofs.«01_k».proof.Proof.ProjOutBranch

@[expose] public section

noncomputable section

namespace Cert.Proj

open Idealize.ShloMosaic Idealize.ShloMosaic.TcCoe Cert.ProjectionIdeal Cert.ProjectionIdeal.Gen Cert.Layer Cert.ProjLayer

variable (m : (ℓ : Loc nD τ sig) → Buf (Elt Ideal) ℓ) (c : Dev nD)

/-- An index of a block of one batch. -/
theorem one_batch {a b : ℕ} (y : (⟨3, ![1, a, b]⟩ : Shape).Idx) : ∃ (r : Fin a) (n : Fin b), y = ix3 0 r n := ⟨y 1, y 2, by
  funext k
  match k with
  | ⟨0, _⟩ => exact Fin.ext (by have : (y 0).val < 1 := (y 0).isLt; show (y 0).val = 0; omega)
  | ⟨1, _⟩ => rfl
  | ⟨2, _⟩ => rfl⟩

theorem one_batch_heads {g a b : ℕ} (y : (⟨4, ![1, g, a, b]⟩ : Shape).Idx) : ∃ (h : Fin g) (r : Fin a) (n : Fin b), y = ix4 0 h r n := ⟨y 1, y 2, y 3, by
  funext k
  match k with
  | ⟨0, _⟩ => exact Fin.ext (by have : (y 0).val < 1 := (y 0).isLt; show (y 0).val = 0; omega)
  | ⟨1, _⟩ => rfl
  | ⟨2, _⟩ => rfl
  | ⟨3, _⟩ => rfl⟩

theorem queries : (dats m 0 c).arrAt 17 cfg0.N = fun i : S8x2048x1024.Idx =>
    queryOut (proj m c) (argQg m c) (argCos m c) (argSin m c) (i 0) (i 1) (i 2) := by
  refine (dats m 0 c).arrAt_eq_of_covers 17 _ (by decide +kernel) fun t hf y => ?_
  blk_simp
  rw [after0_17, out_query]
  obtain ⟨r, n, rfl⟩ := one_batch y
  refine (query_tile m c t r n).trans ?_
  have e : (win0_17.blk t).view.emb (ix3 0 r n) = (ix3 (batch t) (row t r) n : S8x2048x1024.Idx) := by blk_ext [index_17, batch, row]
  rw [e]
  rfl

theorem keys : (dats m 0 c).arrAt 18 cfg0.N = fun i : S8x4x128x2048.Idx =>
    keyOut (proj m c) (argKg m c) (argCos m c) (argSin m c) (i 0) (i 1) (i 2) (i 3) := by
  refine (dats m 0 c).arrAt_eq_of_covers 18 _ (by decide +kernel) fun t hf y => ?_
  blk_simp
  rw [after0_18, out_key]
  obtain ⟨g, l, r, rfl⟩ := one_batch_heads y
  refine (key_tile m c t g l r).trans ?_
  have e : (win0_18.blk t).view.emb (ix4 0 g l r) = (ix4 (batch t) g l (row t r) : S8x4x128x2048.Idx) := by blk_ext [index_18, batch, row]
  rw [e]
  rfl

theorem values : (dats m 0 c).arrAt 19 cfg0.N = fun i : S8x4x2048x128.Idx => valueOut (proj m c) (i 0) (i 1) (i 2) (i 3) := by
  refine (dats m 0 c).arrAt_eq_of_covers 19 _ (by decide +kernel) fun t hf y => ?_
  blk_simp
  rw [after0_19, out_value]
  obtain ⟨g, r, l, rfl⟩ := one_batch_heads y
  refine (value_tile m c t g r l).trans ?_
  have e : (win0_19.blk t).view.emb (ix4 0 g r l) = (ix4 (batch t) g (row t r) l : S8x4x2048x128.Idx) := by blk_ext [index_19, batch, row]
  rw [e]
  rfl

theorem outGates : (dats m 0 c).arrAt 20 cfg0.N = fun i : S8x2048x1024.Idx => outGate (proj m c) (i 0) (i 1) (i 2) := by
  refine (dats m 0 c).arrAt_eq_of_covers 20 _ (by decide +kernel) fun t hf y => ?_
  blk_simp
  rw [after0_20, out_sza]
  obtain ⟨r, n, rfl⟩ := one_batch y
  refine (sza_tile m c t r n).trans ?_
  have e : (win0_20.blk t).view.emb (ix3 0 r n) = (ix3 (batch t) (row t r) n : S8x2048x1024.Idx) := by blk_ext [index_20, batch, row]
  rw [e]
  rfl

theorem mergeGates : (dats m 0 c).arrAt 21 cfg0.N = fun i : S8x2048x1024.Idx => gate (proj m c) (argBg m c) 0 (i 0) (i 1) (i 2) := by
  refine (dats m 0 c).arrAt_eq_of_covers 21 _ (by decide +kernel) fun t hf y => ?_
  blk_simp
  rw [after0_21, out_gate]
  obtain ⟨r, n, rfl⟩ := one_batch y
  refine (gate_tile m c t 0 r n).trans ?_
  have e : (win0_21.blk t).view.emb (ix3 0 r n) = (ix3 (batch t) (row t r) n : S8x2048x1024.Idx) := by blk_ext [index_21, batch, row]
  rw [e]
  rfl

theorem branches : (dats m 0 c).arrAt 22 cfg0.N = fun i : S8x2048x1024.Idx =>
    branchOut (proj m c) (argCw m c) (argCb m c) (argWcb m c) (argBg m c) (i 0) (i 1) (i 2) := by
  refine (dats m 0 c).arrAt_eq_of_covers 22 _ (by decide +kernel) fun t hf y => ?_
  blk_simp
  rw [after0_22, out_merge]
  obtain ⟨r, n, rfl⟩ := one_batch y
  refine (merge_tile m c t r n).trans ?_
  have e : (win0_22.blk t).view.emb (ix3 0 r n) = (ix3 (batch t) (row t r) n : S8x2048x1024.Idx) := by blk_ext [index_22, batch, row]
  rw [e]
  rfl

end Cert.Proj
-- ==== Proof.ProjRef.lean ====
/-
  The projection reference's results read at an index.
-/
module

public import proofs.«01_k».proof.Proof.Gen.ProjectionReferenceIdeal.Read
public import proofs.«01_k».proof.Proof.ProjLayer

@[expose] public section

noncomputable section

namespace Cert.ProjRef

open Idealize.ShloMosaic Cert.ProjectionReferenceIdeal Cert.ProjectionReferenceIdeal.Read Cert.Layer Cert.ProjLayer

variable (x : Arr3 8 2048 1024) (mod : Arr3 16 1 3072) (ng : Arr1 1024) (w : Arr2 1024 8704) (qg kg : Arr1 64) (c s : Arr2 2048 64)
  (cw : Arr2 3 1024) (cb : Arr1 1024) (wcb : Arr2 1024 1024) (bg : Arr2 2 1024)

theorem root_read (b : Fin 8) (i : Fin 2048) (e : Fin 1024) : val_main_v12 (F := Ideal) x (ix3 b i e) = rroot (fun k : Fin 1024 => x (ix3 b i k)) width := by
  unfold val_main_v12 val_main_v11 val_main_v10 val_main_v9 val_main_v8 val_main_v7 val_main_v6 val_main_v5 val_main_v4 val_main_cst val_main_cst_0 val_main_cst_1
  pointwise
  unfold rroot eps width
  with_reducible rfl

theorem hidden_read (b : Fin 8) (i : Fin 2048) (e : Fin 1024) : val_main_v22 (F := Ideal) x mod ng (ix3 b i e) = ProjLayer.hidden x mod ng b i e := by
  unfold val_main_v22 val_main_v21 val_main_v20 val_main_v19 val_main_v18 val_main_v17 val_main_v16 val_main_v15 val_main_v14 val_main_v13 val_main_v2 val_main_v1 val_main_v0
    val_main_cst_2
  pointwise
  rw [root_read]
  unfold ProjLayer.hidden
  rw [one_eq]

theorem projected_read (b : Fin 8) (i : Fin 2048) (n : Fin 8704) : val_main_v23 (F := Ideal) x mod ng w (ix3 b i n) = projected x mod ng w b i n := by
  unfold val_main_v23
  pointwise
  simp only [hidden_read]
  unfold projected
  with_reducible rfl

/-- A head's lane of the queries before the norm. -/
theorem query_read (b : Fin 8) (i : Fin 2048) (h : Fin 16) (d : Fin 64) :
    val_main_v33 (F := Ideal) x mod ng w (ix4 b i h d) = projected x mod ng w b i ⟨64 * h.val + d.val, by omega⟩ := by
  unfold val_main_v33 val_main_v24
  pointwise
  exact (projected_read x mod ng w b i _).trans (congrArg _ (Fin.ext (by simp only; omega)))

theorem key_read (b : Fin 8) (i : Fin 2048) (h : Fin 4) (d : Fin 64) :
    val_main_v47 (F := Ideal) x mod ng w (ix4 b i h d) = projected x mod ng w b i ⟨1024 + 64 * h.val + d.val, by omega⟩ := by
  unfold val_main_v47 val_main_v25
  pointwise
  exact (projected_read x mod ng w b i _).trans (congrArg _ (Fin.ext (by simp only; omega)))

theorem value_read (b : Fin 8) (i : Fin 2048) (h : Fin 4) (d : Fin 64) :
    val_main_v61 (F := Ideal) x mod ng w (ix4 b i h d) = projected x mod ng w b i ⟨1280 + 64 * h.val + d.val, by omega⟩ := by
  unfold val_main_v61 val_main_v26
  pointwise
  exact (projected_read x mod ng w b i _).trans (congrArg _ (Fin.ext (by simp only; omega)))

theorem query_normed (b : Fin 8) (i : Fin 2048) (h : Fin 16) (d : Fin 64) :
    val_main_v46 (F := Ideal) x mod ng w qg (ix4 b i h d)
      = normed (fun d => projected x mod ng w b i ⟨64 * h.val + d.val, by omega⟩) (fun d => qg (ix1 d)) d := by
  unfold val_main_v46 val_main_v45 val_main_v44 val_main_v43 val_main_v42 val_main_v41 val_main_v40 val_main_v39 val_main_v38 val_main_v37 val_main_v36 val_main_v35 val_main_v34
    val_main_cst_3 val_main_cst_4 val_main_cst_5
  pointwise
  simp only [query_read]
  unfold normed rroot eps dim
  with_reducible rfl

theorem key_normed (b : Fin 8) (i : Fin 2048) (h : Fin 4) (d : Fin 64) :
    val_main_v60 (F := Ideal) x mod ng w kg (ix4 b i h d)
      = normed (fun d => projected x mod ng w b i ⟨1024 + 64 * h.val + d.val, by omega⟩) (fun d => kg (ix1 d)) d := by
  unfold val_main_v60 val_main_v59 val_main_v58 val_main_v57 val_main_v56 val_main_v55 val_main_v54 val_main_v53 val_main_v52 val_main_v51 val_main_v50 val_main_v49 val_main_v48
    val_main_cst_6 val_main_cst_7 val_main_cst_8
  pointwise
  simp only [key_read]
  unfold normed rroot eps dim
  with_reducible rfl

/-- The turned query heads: four quarters joined. -/
theorem query_turned (b : Fin 8) (i : Fin 2048) (h : Fin 16) (d : Fin 64) :
    val_main_v73 (F := Ideal) x mod ng w qg (ix4 b i h d)
      = turned (normed (fun d => projected x mod ng w b i ⟨64 * h.val + d.val, by omega⟩) (fun d => qg (ix1 d))) d := by
  have hd := d.isLt
  unfold val_main_v73 val_main_v72 val_main_v71 val_main_v70 val_main_v69 val_main_v68 val_main_v67
  pointwise
  unfold turned
  split_ifs
  all_goals
    first
    | omega
    | exact (congrArg (fun z => -z) ((query_normed x mod ng w qg b i h _).trans (congrArg (normed _ _) (Fin.ext (by simp only; omega))))).trans (if_pos (by omega)).symm
    | exact ((query_normed x mod ng w qg b i h _).trans (congrArg (normed _ _) (Fin.ext (by simp only; omega)))).trans (if_neg (by omega)).symm

theorem key_turned (b : Fin 8) (i : Fin 2048) (h : Fin 4) (d : Fin 64) :
    val_main_v87 (F := Ideal) x mod ng w kg (ix4 b i h d)
      = turned (normed (fun d => projected x mod ng w b i ⟨1024 + 64 * h.val + d.val, by omega⟩) (fun d => kg (ix1 d))) d := by
  have hd := d.isLt
  unfold val_main_v87 val_main_v86 val_main_v85 val_main_v84 val_main_v83 val_main_v82 val_main_v81
  pointwise
  unfold turned
  split_ifs
  all_goals
    first
    | omega
    | exact (congrArg (fun z => -z) ((key_normed x mod ng w kg b i h _).trans (congrArg (normed _ _) (Fin.ext (by simp only; omega))))).trans (if_pos (by omega)).symm
    | exact ((key_normed x mod ng w kg b i h _).trans (congrArg (normed _ _) (Fin.ext (by simp only; omega)))).trans (if_neg (by omega)).symm

theorem query_result (b : Fin 8) (i : Fin 2048) (n : Fin 1024) :
    val_main_v143 (F := Ideal) x mod ng w qg c s (ix3 b i n) = queryOut (projected x mod ng w) qg c s b i n := by
  unfold val_main_v143 val_main_v135 val_main_v134 val_main_v133 val_main_v77 val_main_v76 val_main_v75 val_main_v74 val_main_v66 val_main_v65 val_main_v64 val_main_v63 val_main_v62 val_main_cst_12
  pointwise
  simp only [query_turned, query_normed]
  unfold queryOut rotated scale
  with_reducible rfl

theorem key_result (b : Fin 8) (g : Fin 4) (l : Fin 128) (i : Fin 2048) :
    val_main_v144 (F := Ideal) x mod ng w kg c s (ix4 b g l i) = keyOut (projected x mod ng w) kg c s b g l i := by
  have hl := l.isLt
  have e (d : Fin 64) : val_main_v91 (F := Ideal) x mod ng w kg c s (ix4 b i g d)
      = rotated (fun d => projected x mod ng w b i ⟨1024 + 64 * g.val + d.val, by omega⟩) (fun d => kg (ix1 d)) (fun d => c (ix2 i d)) (fun d => s (ix2 i d)) d := by
    unfold val_main_v91 val_main_v90 val_main_v89 val_main_v88 val_main_v80 val_main_v79 val_main_v78 val_main_v63 val_main_v62
    pointwise
    rw [key_turned, key_normed]
    unfold rotated
    with_reducible rfl
  unfold val_main_v144 val_main_v137 val_main_v136
  pointwise
  simp only [e]
  unfold keyOut
  split_ifs <;> exact congrArg (rotated _ _ _ _) (Fin.ext (by simp only; omega))

theorem value_result (b : Fin 8) (g : Fin 4) (i : Fin 2048) (l : Fin 128) :
    val_main_v145 (F := Ideal) x mod ng w (ix4 b g i l) = valueOut (projected x mod ng w) b g i l := by
  have hl := l.isLt
  unfold val_main_v145 val_main_v139 val_main_v138
  pointwise
  simp only [value_read]
  unfold valueOut
  split_ifs <;> exact congrArg (projected x mod ng w b i) (Fin.ext (by simp only; omega))

theorem gate_result (b : Fin 8) (i : Fin 2048) (n : Fin 1024) :
    val_main_v146 (F := Ideal) x mod ng w (ix3 b i n) = outGate (projected x mod ng w) b i n := by
  have e : val_main_v27 (F := Ideal) x mod ng w (ix3 b i n) = projected x mod ng w b i ⟨1536 + n.val, by omega⟩ := by
    unfold val_main_v27
    pointwise
    exact projected_read x mod ng w b i _
  unfold val_main_v146 val_main_v140 val_main_call1_v5 val_main_call1_v4 val_main_call1_v3 val_main_call1_v2 val_main_call1_v1 val_main_call1_v0 val_main_call1_cst val_main_call1_cst_0
  pointwise
  rw [e]
  unfold outGate silu Ideal.logistic
  with_reducible rfl

theorem merge_gate (k : Fin 2) (b : Fin 8) (i : Fin 2048) (n : Fin 1024) :
    val_main_v132 (F := Ideal) x mod ng w bg (ix4 b i k n) = gate (projected x mod ng w) bg k b i n := by
  have e : val_main_v123 (F := Ideal) x mod ng w (ix4 b i k n) = projected x mod ng w b i ⟨6656 + 1024 * k.val + n.val, by omega⟩ := by
    unfold val_main_v123 val_main_v32
    pointwise
    exact (projected_read x mod ng w b i _).trans (congrArg _ (Fin.ext (by simp only; omega)))
  unfold val_main_v132 val_main_v131 val_main_v130 val_main_v129 val_main_v128 val_main_v127 val_main_v126 val_main_v125 val_main_v124 val_main_cst_10 val_main_cst_11
  pointwise
  rw [e]
  unfold gate Ideal.logistic
  with_reducible rfl

theorem gate0_result (b : Fin 8) (i : Fin 2048) (n : Fin 1024) :
    val_main_v147 (F := Ideal) x mod ng w bg (ix3 b i n) = gate (projected x mod ng w) bg 0 b i n := by
  unfold val_main_v147 val_main_v142 val_main_v141
  pointwise
  exact merge_gate x mod ng w bg 0 b i n

theorem conved_read (b : Fin 8) (i : Fin 2048) (e : Fin 1024) :
    val_main_v92 (F := Ideal) x mod ng w (ix3 b i e) = conved (projected x mod ng w) b i e := by
  unfold val_main_v92 val_main_v30 val_main_v28
  pointwise
  simp only [projected_read]
  unfold conved
  with_reducible rfl

theorem before_read (b : Fin 8) (i : Fin 2048) (e : Fin 1024) :
    val_main_v96 (F := Ideal) x mod ng w (ix3 b i e) = before (projected x mod ng w) b i e := by
  unfold val_main_v96 val_main_v95 val_main_v94 val_main_cst_9
  pointwise
  simp only [conved_read]
  unfold before
  split_ifs <;> first | omega | rfl | exact (if_neg (by omega)).symm

theorem behind_read (b : Fin 8) (i : Fin 2048) (e : Fin 1024) :
    val_main_v98 (F := Ideal) x mod ng w (ix3 b i e) = behind (projected x mod ng w) b i e := by
  unfold val_main_v98 val_main_v97 val_main_v94 val_main_cst_9
  pointwise
  simp only [conved_read]
  unfold behind
  have := i.isLt
  split_ifs <;> first | omega | rfl | exact congrArg (conved _ b · e) (Fin.ext (by simp only; omega))

theorem branch_read (b : Fin 8) (i : Fin 2048) (e : Fin 1024) :
    val_main_v121 (F := Ideal) x mod ng w cw cb (ix3 b i e) = branch (projected x mod ng w) cw cb b i e := by
  unfold val_main_v121 val_main_v120 val_main_v119 val_main_v118 val_main_v117 val_main_v116 val_main_v115 val_main_v114 val_main_v113 val_main_v112 val_main_v111 val_main_v110 val_main_v109
    val_main_v108 val_main_v107 val_main_v106 val_main_v105 val_main_v104 val_main_v103 val_main_v102 val_main_v101 val_main_v100 val_main_v99 val_main_call0_v5 val_main_call0_v4
    val_main_call0_v3 val_main_call0_v2 val_main_call0_v1 val_main_call0_v0 val_main_call0_cst val_main_call0_cst_0 val_main_v31 val_main_v29
  pointwise
  simp only [projected_read]
  rw [before_read, behind_read, conved_read]
  unfold branch silu Ideal.logistic
  with_reducible rfl

theorem branch_result (b : Fin 8) (i : Fin 2048) (n : Fin 1024) :
    val_main_v150 (F := Ideal) x mod ng w cw cb wcb bg (ix3 b i n) = branchOut (projected x mod ng w) cw cb wcb bg b i n := by
  unfold val_main_v150 val_main_v149 val_main_v148 val_main_v122
  pointwise
  rw [merge_gate]
  simp only [branch_read]
  unfold branchOut
  with_reducible rfl

end Cert.ProjRef
-- ==== Proof.ProjEqual.lean ====
/-
  The projection programs side by side: whatever the arguments hold, the kernel's six result arrays are the reference's.
-/
module

public import proofs.«01_k».proof.Defs
public import proofs.«01_k».proof.Proof.ProjWhole
public import proofs.«01_k».proof.Proof.ProjRef

@[expose] public section

noncomputable section

namespace Cert.ProjEqual

open Idealize.ShloMosaic Idealize.ShloMosaic.TcCoe Idealize.SL.Sem Cert.Layer Cert.ProjLayer Cert.ProjectionReferenceIdeal.Read

/-! ## The reference's results as whole arrays -/

theorem all_three {a b n : ℕ} {e : Type} {f : (⟨3, ![a, b, n]⟩ : Shape).Idx → e} {g : Fin a → Fin b → Fin n → e} (h : ∀ i j k, f (ix3 i j k) = g i j k) :
    f = fun i => g (i 0) (i 1) (i 2) := by
  funext i
  refine Eq.trans (congrArg f (funext fun k => ?_)) (h (i 0) (i 1) (i 2))
  match k with
  | ⟨0, _⟩ => rfl
  | ⟨1, _⟩ => rfl
  | ⟨2, _⟩ => rfl

theorem all_four {a b n l : ℕ} {e : Type} {f : (⟨4, ![a, b, n, l]⟩ : Shape).Idx → e} {g : Fin a → Fin b → Fin n → Fin l → e} (h : ∀ i j k q, f (ix4 i j k q) = g i j k q) :
    f = fun i => g (i 0) (i 1) (i 2) (i 3) := by
  funext i
  refine Eq.trans (congrArg f (funext fun k => ?_)) (h (i 0) (i 1) (i 2) (i 3))
  match k with
  | ⟨0, _⟩ => rfl
  | ⟨1, _⟩ => rfl
  | ⟨2, _⟩ => rfl
  | ⟨3, _⟩ => rfl

section sides

variable (m : (ℓ : Loc Cert.ProjectionIdeal.nD Cert.ProjectionIdeal.τ Cert.ProjectionIdeal.sig) → Buf (Elt Ideal) ℓ) (c : Dev Cert.ProjectionIdeal.nD)

theorem query_same : val_main_v143 (F := Ideal) (Cert.Proj.argX m c) (Cert.Proj.argMod m c) (Cert.Proj.argNorm m c) (Cert.Proj.argW m c) (Cert.Proj.argQg m c) (Cert.Proj.argCos m c)
    (Cert.Proj.argSin m c) = (Cert.ProjectionIdeal.Gen.dats m 0 c).arrAt 17 Cert.ProjectionIdeal.cfg0.N :=
  (all_three (Cert.ProjRef.query_result _ _ _ _ _ _ _)).trans (Cert.Proj.queries m c).symm

theorem key_same : val_main_v144 (F := Ideal) (Cert.Proj.argX m c) (Cert.Proj.argMod m c) (Cert.Proj.argNorm m c) (Cert.Proj.argW m c) (Cert.Proj.argKg m c) (Cert.Proj.argCos m c)
    (Cert.Proj.argSin m c) = (Cert.ProjectionIdeal.Gen.dats m 0 c).arrAt 18 Cert.ProjectionIdeal.cfg0.N :=
  (all_four (Cert.ProjRef.key_result _ _ _ _ _ _ _)).trans (Cert.Proj.keys m c).symm

theorem value_same : val_main_v145 (F := Ideal) (Cert.Proj.argX m c) (Cert.Proj.argMod m c) (Cert.Proj.argNorm m c) (Cert.Proj.argW m c)
    = (Cert.ProjectionIdeal.Gen.dats m 0 c).arrAt 19 Cert.ProjectionIdeal.cfg0.N :=
  (all_four (Cert.ProjRef.value_result _ _ _ _)).trans (Cert.Proj.values m c).symm

theorem outGate_same : val_main_v146 (F := Ideal) (Cert.Proj.argX m c) (Cert.Proj.argMod m c) (Cert.Proj.argNorm m c) (Cert.Proj.argW m c)
    = (Cert.ProjectionIdeal.Gen.dats m 0 c).arrAt 20 Cert.ProjectionIdeal.cfg0.N :=
  (all_three (Cert.ProjRef.gate_result _ _ _ _)).trans (Cert.Proj.outGates m c).symm

theorem mergeGate_same : val_main_v147 (F := Ideal) (Cert.Proj.argX m c) (Cert.Proj.argMod m c) (Cert.Proj.argNorm m c) (Cert.Proj.argW m c) (Cert.Proj.argBg m c)
    = (Cert.ProjectionIdeal.Gen.dats m 0 c).arrAt 21 Cert.ProjectionIdeal.cfg0.N :=
  (all_three (Cert.ProjRef.gate0_result _ _ _ _ _)).trans (Cert.Proj.mergeGates m c).symm

theorem branch_same : val_main_v150 (F := Ideal) (Cert.Proj.argX m c) (Cert.Proj.argMod m c) (Cert.Proj.argNorm m c) (Cert.Proj.argW m c) (Cert.Proj.argCw m c) (Cert.Proj.argCb m c)
    (Cert.Proj.argWcb m c) (Cert.Proj.argBg m c) = (Cert.ProjectionIdeal.Gen.dats m 0 c).arrAt 22 Cert.ProjectionIdeal.cfg0.N :=
  (all_three (Cert.ProjRef.branch_result _ _ _ _ _ _ _ _)).trans (Cert.Proj.branches m c).symm

end sides

theorem algebraic : Cert.algebraic_ProjectionIdeal_ProjectionReferenceIdeal (hProjectionIdeal := Cert.ProjectionIdeal.Gen.facts)
    (hProjectionReferenceIdeal := Cert.ProjectionReferenceIdeal.Gen.facts) := by
  intro m g m' g' _ hag
  refine ⟨fun c => (Cert.ProjectionIdeal.Gen.dats m 0 c).arrAt 17 Cert.ProjectionIdeal.cfg0.N, fun c => (Cert.ProjectionIdeal.Gen.dats m 0 c).arrAt 18 Cert.ProjectionIdeal.cfg0.N,
    fun c => (Cert.ProjectionIdeal.Gen.dats m 0 c).arrAt 19 Cert.ProjectionIdeal.cfg0.N, fun c => (Cert.ProjectionIdeal.Gen.dats m 0 c).arrAt 20 Cert.ProjectionIdeal.cfg0.N,
    fun c => (Cert.ProjectionIdeal.Gen.dats m 0 c).arrAt 21 Cert.ProjectionIdeal.cfg0.N, fun c => (Cert.ProjectionIdeal.Gen.dats m 0 c).arrAt 22 Cert.ProjectionIdeal.cfg0.N,
    Cert.ProjectionIdeal.Value.run_blocks m g, ?_⟩
  refine (θ_run _ _ _).mono (fun r h c => ?_) (Cert.ProjectionReferenceIdeal.Value.run m' g')
  obtain ⟨r0, r1, r2, r3, r4, r5, kept⟩ := h c
  obtain ⟨h0, h1, h2, h3, h4, h5, h6, h7, h8, h9, h10, h11⟩ := hag c
  refine ⟨r0.trans ((val_main_v143_eq _).trans (Eq.trans ?_ (query_same m c))), r1.trans ((val_main_v144_eq _).trans (Eq.trans ?_ (key_same m c))),
    r2.trans ((val_main_v145_eq _).trans (Eq.trans ?_ (value_same m c))), r3.trans ((val_main_v146_eq _).trans (Eq.trans ?_ (outGate_same m c))),
    r4.trans ((val_main_v147_eq _).trans (Eq.trans ?_ (mergeGate_same m c))), r5.trans ((val_main_v150_eq _).trans (Eq.trans ?_ (branch_same m c))), kept⟩
  · exact congr (congr (congr (congr (congr (congr (congrArg (val_main_v143 (F := Ideal)) h0) h1) h2) h3) h4) h6) h7
  · exact congr (congr (congr (congr (congr (congr (congrArg (val_main_v144 (F := Ideal)) h0) h1) h2) h3) h5) h6) h7
  · exact congr (congr (congr (congrArg (val_main_v145 (F := Ideal)) h0) h1) h2) h3
  · exact congr (congr (congr (congrArg (val_main_v146 (F := Ideal)) h0) h1) h2) h3
  · exact congr (congr (congr (congr (congrArg (val_main_v147 (F := Ideal)) h0) h1) h2) h3) h11
  · exact congr (congr (congr (congr (congr (congr (congr (congrArg (val_main_v150 (F := Ideal)) h0) h1) h2) h3) h8) h9) h10) h11

end Cert.ProjEqual
-- ==== Proof.lean ====
/-
  The proof of `Cert.Claim`: the frames and the value claims, put together. The value claims are `Proof/AttnEqual.lean`'s and `Proof/ProjEqual.lean`'s.
-/
module

public import proofs.«01_k».proof.Defs
public import proofs.«01_k».proof.Proof.Gen.Kernel.Frame
public import proofs.«01_k».proof.Proof.Gen.KernelIdeal.Frame
public import proofs.«01_k».proof.Proof.Gen.ReferenceIdeal.Read
public import proofs.«01_k».proof.Proof.AttnEqual
public import proofs.«01_k».proof.Proof.Gen.ProjectionReferenceIdeal.Read
public import proofs.«01_k».proof.Proof.ProjDevFrame
public import proofs.«01_k».proof.Proof.ProjEqual

@[expose] public section

noncomputable section

namespace Cert.Proof

open Idealize.ShloMosaic Idealize.SL.Sem

/-- The reference runs, keeps its arguments and has no counter to move. -/
theorem frame_r : Cert.quiescent_ReferenceIdeal (hReferenceIdeal := Cert.ReferenceIdeal.Gen.facts) := fun m g _ =>
  (θ_run (Cert.ReferenceIdeal.defs (F := Ideal)) _ _).mono (fun r h => And.intro (fun c => (h c).2) (sem_eq_zero_of_no_sems (by decide) r.2))
    (Cert.ReferenceIdeal.Value.run (F := Ideal) m g)

theorem frame_projection_r : Cert.quiescent_ProjectionReferenceIdeal (hProjectionReferenceIdeal := Cert.ProjectionReferenceIdeal.Gen.facts) := fun m g _ =>
  (θ_run (Cert.ProjectionReferenceIdeal.defs (F := Ideal)) _ _).mono (fun r h => And.intro (fun c => (h c).2.2.2.2.2.2) (sem_eq_zero_of_no_sems (by decide) r.2))
    (Cert.ProjectionReferenceIdeal.Value.run (F := Ideal) m g)

theorem claim : Cert.Claim :=
  ⟨Cert.Kernel.Gen.facts, Cert.KernelIdeal.Gen.facts, Cert.ReferenceIdeal.Gen.facts, Cert.Projection.Gen.facts, Cert.ProjectionIdeal.Gen.facts,
    Cert.ProjectionReferenceIdeal.Gen.facts, Cert.Finite.facts,
    fun m g _ => Cert.Kernel.Gen.frame m g,
    fun m g _ => Cert.KernelIdeal.Gen.frame m g,
    fun m g _ => Cert.KernelIdeal.Gen.frame m g,
    frame_r,
    fun m g _ => frame_r m g trivial,
    fun m g _ => Cert.Projection.Gen.frame m g,
    fun m g _ => Cert.ProjectionIdeal.Gen.frame m g,
    frame_projection_r,
    trivial,
    Cert.AttnEqual.algebraic,
    trivial,
    Cert.ProjEqual.algebraic⟩

end Cert.Proof
